-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![4, 2048, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 512]⟩ ⟨2, ![2048, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048x512 : Shape := ⟨2, ![2048, 512]⟩
abbrev S3x1024x512 : Shape := ⟨3, ![3, 1024, 512]⟩
abbrev S3 : Shape := ⟨1, ![3]⟩
abbrev S_ : Shape := ⟨0, ![]⟩
abbrev S1024x512 : Shape := ⟨2, ![1024, 512]⟩
abbrev S1x1024x512 : Shape := ⟨3, ![1, 1024, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048x512, .f32⟩
  | .local _ .vmem, ⟨0, _⟩ => ⟨S2048x2048, .bf16⟩
  | .local _ .vmem, ⟨1, _⟩ => ⟨S2048x512, .f32⟩
  | .local _ .vmem, ⟨2, _⟩ => ⟨S3x1024x512, .bf16⟩
  | .local _ .vmem, ⟨3, _⟩ => ⟨S3x1024x512, .bf16⟩
  | .local _ .vmem, ⟨4, _⟩ => ⟨S3x1024x512, .bf16⟩
  | .local _ .vmem, ⟨5, _⟩ => ⟨S3x1024x512, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_20 : BitVec 32 := 1#32
  let v37 : BitVec 32 := Scalar.muli v20 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_25 : BitVec 32 := 1#32
  let v43 : BitVec 32 := Scalar.muli v31 c1_i32_25
  let v44 : BitVec 32 := Scalar.addi v42 v43
  v44.toNat
def k0_off1 (d0 : Dev nD) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_27 : BitVec 32 := 4#32
  let v45 : BitVec 32 := Scalar.addi v8 c4_i32_27
  let c1_i32_28 : BitVec 32 := 1#32
  let v46 : BitVec 32 := Scalar.subi v45 c1_i32_28
  let c4_i32_29 : BitVec 32 := 4#32
  let c0_i32_30 : BitVec 32 := 0#32
  let v47 : BitVec 1 := Scalar.cmpi .eq c4_i32_29 c0_i32_30
  let c1_i32_31 : BitVec 32 := 1#32
  let v48 : BitVec 32 := Scalar.select v47 c1_i32_31 c4_i32_29
  let v49 : BitVec 32 := Scalar.remsi v46 v48
  let c0_i32_33 : BitVec 32 := 0#32
  let v51 : BitVec 1 := Scalar.cmpi .slt v49 c0_i32_33
  let c0_i32_34 : BitVec 32 := 0#32
  let v52 : BitVec 1 := Scalar.cmpi .slt v48 c0_i32_34
  let v53 : BitVec 1 := Scalar.xori v51 v52
  let c0_i32_32 : BitVec 32 := 0#32
  let v50 : BitVec 1 := Scalar.cmpi .ne v49 c0_i32_32
  let v54 : BitVec 1 := Scalar.andi v53 v50
  let v55 : BitVec 32 := Scalar.addi v49 v48
  let v56 : BitVec 32 := Scalar.select v54 v55 v49
  let c512_i32 : BitVec 32 := 512#32
  let v57 : BitVec 32 := Scalar.muli v56 c512_i32
  let v58 : Index := Scalar.indexCast v57
  ![0, v58.toNat]
def k0_off2 (d0 : Dev nD) : Fin 2 → Nat :=
  let c1024 : Index := 1024#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v64 : BitVec 32 := Scalar.addi v8 c1_i32_38
  let c4_i32_39 : BitVec 32 := 4#32
  let c0_i32_40 : BitVec 32 := 0#32
  let v65 : BitVec 1 := Scalar.cmpi .eq c4_i32_39 c0_i32_40
  let c1_i32_41 : BitVec 32 := 1#32
  let v66 : BitVec 32 := Scalar.select v65 c1_i32_41 c4_i32_39
  let v67 : BitVec 32 := Scalar.remsi v64 v66
  let c0_i32_43 : BitVec 32 := 0#32
  let v69 : BitVec 1 := Scalar.cmpi .slt v67 c0_i32_43
  let c0_i32_44 : BitVec 32 := 0#32
  let v70 : BitVec 1 := Scalar.cmpi .slt v66 c0_i32_44
  let v71 : BitVec 1 := Scalar.xori v69 v70
  let c0_i32_42 : BitVec 32 := 0#32
  let v68 : BitVec 1 := Scalar.cmpi .ne v67 c0_i32_42
  let v72 : BitVec 1 := Scalar.andi v71 v68
  let v73 : BitVec 32 := Scalar.addi v67 v66
  let v74 : BitVec 32 := Scalar.select v72 v73 v67
  let c512_i32_45 : BitVec 32 := 512#32
  let v75 : BitVec 32 := Scalar.muli v74 c512_i32_45
  let v76 : Index := Scalar.indexCast v75
  ![1024, v76.toNat]
def k0_dev3 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v82 : BitVec 32 := Scalar.muli v2 c16_i32_53
  let v83 : BitVec 32 := Scalar.addi c0_i32_54 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v84 : BitVec 32 := Scalar.muli v5 c4_i32_55
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_56 : BitVec 32 := 1#32
  let v86 : BitVec 32 := Scalar.muli v31 c1_i32_56
  let v87 : BitVec 32 := Scalar.addi v85 v86
  v87.toNat
def k0_dev4 (d0 : Dev nD) : Nat :=
  let c0_i32_66 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_65 : BitVec 32 := 16#32
  let v96 : BitVec 32 := Scalar.muli v2 c16_i32_65
  let v97 : BitVec 32 := Scalar.addi c0_i32_66 v96
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v98 : BitVec 32 := Scalar.muli v5 c4_i32_67
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_68 : BitVec 32 := 1#32
  let v100 : BitVec 32 := Scalar.muli v20 c1_i32_68
  let v101 : BitVec 32 := Scalar.addi v99 v100
  v101.toNat
def k0_off3 (d0 : Dev nD) (c0_i32_74 : BitVec 32) : Fin 2 → Nat :=
  let c0_105 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8_i32 : BitVec 32 := 8#32
  let v110 : BitVec 32 := Scalar.addi v8 c8_i32
  let c2_i32_73 : BitVec 32 := 2#32
  let v111 : BitVec 32 := Scalar.subi v110 c2_i32_73
  let v112 : BitVec 32 := Scalar.subi v111 c0_i32_74
  let c4_i32_75 : BitVec 32 := 4#32
  let c0_i32_76 : BitVec 32 := 0#32
  let v113 : BitVec 1 := Scalar.cmpi .eq c4_i32_75 c0_i32_76
  let c1_i32_77 : BitVec 32 := 1#32
  let v114 : BitVec 32 := Scalar.select v113 c1_i32_77 c4_i32_75
  let v115 : BitVec 32 := Scalar.remsi v112 v114
  let c0_i32_79 : BitVec 32 := 0#32
  let v117 : BitVec 1 := Scalar.cmpi .slt v115 c0_i32_79
  let c0_i32_80 : BitVec 32 := 0#32
  let v118 : BitVec 1 := Scalar.cmpi .slt v114 c0_i32_80
  let v119 : BitVec 1 := Scalar.xori v117 v118
  let c0_i32_78 : BitVec 32 := 0#32
  let v116 : BitVec 1 := Scalar.cmpi .ne v115 c0_i32_78
  let v120 : BitVec 1 := Scalar.andi v119 v116
  let v121 : BitVec 32 := Scalar.addi v115 v114
  let v122 : BitVec 32 := Scalar.select v120 v121 v115
  let c512_i32_104 : BitVec 32 := 512#32
  let v149 : BitVec 32 := Scalar.muli v122 c512_i32_104
  let v150 : Index := Scalar.indexCast v149
  ![0, v150.toNat]
def k0_off4 (d0 : Dev nD) (c0_i32_82 : BitVec 32) : Fin 2 → Nat :=
  let c1024_124 : Index := 1024#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_81 : BitVec 32 := 2#32
  let v123 : BitVec 32 := Scalar.addi v8 c2_i32_81
  let v124 : BitVec 32 := Scalar.addi v123 c0_i32_82
  let c4_i32_83 : BitVec 32 := 4#32
  let c0_i32_84 : BitVec 32 := 0#32
  let v125 : BitVec 1 := Scalar.cmpi .eq c4_i32_83 c0_i32_84
  let c1_i32_85 : BitVec 32 := 1#32
  let v126 : BitVec 32 := Scalar.select v125 c1_i32_85 c4_i32_83
  let v127 : BitVec 32 := Scalar.remsi v124 v126
  let c0_i32_87 : BitVec 32 := 0#32
  let v129 : BitVec 1 := Scalar.cmpi .slt v127 c0_i32_87
  let c0_i32_88 : BitVec 32 := 0#32
  let v130 : BitVec 1 := Scalar.cmpi .slt v126 c0_i32_88
  let v131 : BitVec 1 := Scalar.xori v129 v130
  let c0_i32_86 : BitVec 32 := 0#32
  let v128 : BitVec 1 := Scalar.cmpi .ne v127 c0_i32_86
  let v132 : BitVec 1 := Scalar.andi v131 v128
  let v133 : BitVec 32 := Scalar.addi v127 v126
  let v134 : BitVec 32 := Scalar.select v132 v133 v127
  let c512_i32_123 : BitVec 32 := 512#32
  let v171 : BitVec 32 := Scalar.muli v134 c512_i32_123
  let v172 : Index := Scalar.indexCast v171
  ![1024, v172.toNat]
def k0_dev5 (d0 : Dev nD) : Nat :=
  let c0_i32_151 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_150 : BitVec 32 := 16#32
  let v191 : BitVec 32 := Scalar.muli v2 c16_i32_150
  let v192 : BitVec 32 := Scalar.addi c0_i32_151 v191
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_152 : BitVec 32 := 4#32
  let v193 : BitVec 32 := Scalar.muli v5 c4_i32_152
  let v194 : BitVec 32 := Scalar.addi v192 v193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_153 : BitVec 32 := 1#32
  let v195 : BitVec 32 := Scalar.muli v31 c1_i32_153
  let v196 : BitVec 32 := Scalar.addi v194 v195
  v196.toNat
def k0_dev6 (d0 : Dev nD) : Nat :=
  let c0_i32_163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_162 : BitVec 32 := 16#32
  let v205 : BitVec 32 := Scalar.muli v2 c16_i32_162
  let v206 : BitVec 32 := Scalar.addi c0_i32_163 v205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v207 : BitVec 32 := Scalar.muli v5 c4_i32_164
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_165 : BitVec 32 := 1#32
  let v209 : BitVec 32 := Scalar.muli v20 c1_i32_165
  let v210 : BitVec 32 := Scalar.addi v208 v209
  v210.toNat
def k0_dev7 (d0 : Dev nD) : Nat :=
  let c0_i32_249 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_248 : BitVec 32 := 16#32
  let v300 : BitVec 32 := Scalar.muli v2 c16_i32_248
  let v301 : BitVec 32 := Scalar.addi c0_i32_249 v300
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v302 : BitVec 32 := Scalar.muli v5 c4_i32_250
  let v303 : BitVec 32 := Scalar.addi v301 v302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_251 : BitVec 32 := 1#32
  let v304 : BitVec 32 := Scalar.muli v31 c1_i32_251
  let v305 : BitVec 32 := Scalar.addi v303 v304
  v305.toNat
def k0_dev8 (d0 : Dev nD) : Nat :=
  let c0_i32_261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_260 : BitVec 32 := 16#32
  let v314 : BitVec 32 := Scalar.muli v2 c16_i32_260
  let v315 : BitVec 32 := Scalar.addi c0_i32_261 v314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_262 : BitVec 32 := 4#32
  let v316 : BitVec 32 := Scalar.muli v5 c4_i32_262
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_263 : BitVec 32 := 1#32
  let v318 : BitVec 32 := Scalar.muli v20 c1_i32_263
  let v319 : BitVec 32 := Scalar.addi v317 v318
  v319.toNat
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x2048 : Shape := ⟨3, ![4, 2048, 2048]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S_, .f32⟩
  | .hbm, ⟨3, _⟩ => ⟨S2048x2048, .f32⟩
  | .hbm, ⟨4, _⟩ => ⟨S2048x2048, .bf16⟩
  | .hbm, ⟨5, _⟩ => ⟨S2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.lean ====
/-
  The two rings of the reduce-scatter: the devices next to a device along the axis z, the slots of the four scratch buffers, the semaphores of the copies, and the
  blocks of partial sums that travel, as functions of what the devices hold at the start.

  A direction is a Boolean: `true` is the ring that passes the upper 1024 rows to the right, `false` the ring that passes the lower 1024 rows to the left.
-/
module

public import proofs.«01_k».proof.Proof.Gen.KernelIdeal.Frame
public import proofs.«01_k».proof.Proof.Gen.KernelIdeal.Skeleton
public import Idealize.ShloMosaic.Lib.Pipeline.TalkSched
public import Idealize.ShloMosaic.Lib.Pipeline.RegionTalk
public import Idealize.ShloMosaic.Lib.WritesUnit
public import Idealize.ShloMosaic.Lib.Pipeline.Value

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices -/

/-- The device one step to the right along z: the same x and y, z + 1 modulo 4. -/
def right (c : Dev nD) : Dev nD := ⟨c.val / 4 * 4 + (c.val + 1) % 4, by have : c.val < 32 := c.isLt; show _ < 32; omega⟩
/-- The device one step to the left along z. -/
def left (c : Dev nD) : Dev nD := ⟨c.val / 4 * 4 + (c.val + 3) % 4, by have : c.val < 32 := c.isLt; show _ < 32; omega⟩

/-- The device to which a device sends in a direction. -/
def nxt (d : Bool) (c : Dev nD) : Dev nD := if d then right c else left c
/-- The device from which a device receives in a direction. -/
def prv (d : Bool) (c : Dev nD) : Dev nD := if d then left c else right c

theorem prv_nxt : ∀ (d : Bool) (c : Dev nD), prv d (nxt d c) = c := by decide +kernel
theorem nxt_prv : ∀ (d : Bool) (c : Dev nD), nxt d (prv d c) = c := by decide +kernel
theorem right_ne_left : ∀ c : Dev nD, right c ≠ left c := by decide +kernel
theorem right_left : ∀ c : Dev nD, right (left c) = c := by decide +kernel
theorem left_right : ∀ c : Dev nD, left (right c) = c := by decide +kernel

/-- A direction's ring as a permutation of the devices. -/
def ring (d : Bool) : Dev nD ≃ Dev nD := ⟨nxt d, prv d, prv_nxt d, nxt_prv d⟩

theorem dev1_val : ∀ c : Dev nD, k0_dev1 c = (left c).val := by decide +kernel
theorem dev2_val : ∀ c : Dev nD, k0_dev2 c = (right c).val := by decide +kernel
theorem dev3_val : ∀ c : Dev nD, k0_dev3 c = (nxt true c).val := by decide +kernel
theorem dev4_val : ∀ c : Dev nD, k0_dev4 c = (nxt false c).val := by decide +kernel
theorem dev5_val : ∀ c : Dev nD, k0_dev5 c = (nxt true c).val := by decide +kernel
theorem dev6_val : ∀ c : Dev nD, k0_dev6 c = (nxt false c).val := by decide +kernel
theorem dev7_val : ∀ c : Dev nD, k0_dev7 c = (nxt true c).val := by decide +kernel
theorem dev8_val : ∀ c : Dev nD, k0_dev8 c = (nxt false c).val := by decide +kernel

/-! ## The slots of the scratch buffers -/

/-- The scratch buffer that a direction sends from (`false`) or receives in (`true`). -/
abbrev bufRef : Bool → Bool → Ref sig .tc
  | true, false => cc0_scratch0
  | true, true => cc0_scratch1
  | false, false => cc0_scratch2
  | false, true => cc0_scratch3

/-- That buffer, whole. -/
abbrev buf : Bool → Bool → Memref sig .tc .vmem S3x1024x512 .bf16
  | true, false => Memref.whole cc0_scratch0
  | true, true => Memref.whole cc0_scratch1
  | false, false => Memref.whole cc0_scratch2
  | false, true => Memref.whole cc0_scratch3

theorem slot_inb (s : Fin 3) : ∀ a, (![s.val, 0, 0] : Fin 3 → ℕ) a + S1x1024x512.size a ≤ S3x1024x512.size a := by
  revert s; decide +kernel

/-- Slot s of a buffer of three, as a rectangle of it. -/
abbrev slotR (s : Fin 3) : Rect S3x1024x512 := Rect.unit (s := S3x1024x512) ![s.val, 0, 0] S1x1024x512.size (slot_inb s)

/-- Slot s of a buffer of three, as a block of 1024 rows of 512. -/
abbrev slot (B : Memref sig .tc .vmem S3x1024x512 .bf16) (s : Fin 3) : Memref sig .tc .vmem S1024x512 .bf16 :=
  (B.slice (slotR s) (fun _ => rfl)).squeeze S1024x512 squeezes_S1x1024x512_S1024x512

/-- An element of the buffer lies in the slot that its first coordinate names. -/
theorem mem_slotR (s : Fin 3) (i : S3x1024x512.Idx) : i ∈ (slotR s).set ↔ (i 0).val = s.val := by
  have h1 : (i 1).val < 1024 := (i 1).isLt
  have h2 : (i 2).val < 512 := (i 2).isLt
  rw [Rect.mem_set_unit]
  constructor
  · intro h
    have h0 := h 0
    simp only [Matrix.cons_val_zero] at h0
    have : (S1x1024x512.size 0) = 1 := rfl
    omega
  · intro h a
    fin_cases a
    · exact ⟨h.ge, by show (i 0).val < s.val + 1; omega⟩
    · exact ⟨Nat.zero_le _, by show (i 1).val < 0 + 1024; omega⟩
    · exact ⟨Nat.zero_le _, by show (i 2).val < 0 + 512; omega⟩

/-- Two slots have no element in common. -/
theorem slotR_disjoint (s t : Fin 3) (h : s ≠ t) : Disjoint (slotR s).set (slotR t).set :=
  Finset.disjoint_left.mpr fun i hs ht => h (Fin.ext (((mem_slotR s i).mp hs).symm.trans ((mem_slotR t i).mp ht)))

/-- The three slots are the whole buffer. -/
theorem slotR_cover : (Finset.univ.biUnion fun s : Fin 3 => (slotR s).set) = Finset.univ := by
  ext i
  simp only [Finset.mem_biUnion, Finset.mem_univ, true_and, iff_true]
  exact ⟨i 0, (mem_slotR _ i).mpr rfl⟩

/-- The elements of a slot, in the buffer. -/
theorem slot_set : ∀ (d r : Bool) (s : Fin 3), (slot (buf d r) s).view.set = (Memref.access (buf d r) (slotR s)).set
  | true, true, _ | true, false, _ | false, true, _ | false, false, _ => View.set_reshape _ _

/-- A vector of one block as that block. -/
abbrev blk (w : S1x1024x512.Idx → Elt F .bf16) : S1024x512.Idx → Elt F .bf16 := shapeCast S1024x512 w shapeCasts_S1x1024x512_S1024x512
/-- A block as a vector of one block. -/
abbrev one (X : S1024x512.Idx → Elt F .bf16) : S1x1024x512.Idx → Elt F .bf16 := shapeCast S1x1024x512 X shapeCasts_S1024x512_S1x1024x512

theorem blk_one (X : S1024x512.Idx → Elt F .bf16) : blk (one X) = X := shapeCast_shapeCast _ _ _
theorem one_blk (w : S1x1024x512.Idx → Elt F .bf16) : one (blk w) = w := shapeCast_shapeCast _ _ _

/-- What a slot reads as a block is what the buffer reads at its rectangle, as a block. -/
theorem slot_read (B : Memref sig .tc .vmem S3x1024x512 .bf16) (s : Fin 3) (f : B.view.ty.Contents (Elt F)) :
    (slot B s).view.read (Elt F) f = blk ((Memref.access B (slotR s)).read (Elt F) f) := rfl

/-! ## The semaphores -/

/-- The semaphore of step s of a direction, of the receiving side or the sending side. -/
def semOf (d rcv : Bool) (s : Fin 3) : DmaSem sig :=
  ⟨(match d, rcv with | true, false => 2 | true, true => 5 | false, false => 8 | false, true => 11) + s.val, by
    have := s.isLt
    show _ < 14
    cases d <;> cases rcv <;> dsimp only <;> omega⟩

theorem semOf_inj : ∀ (d r : Bool) (s : Fin 3) (d' r' : Bool) (s' : Fin 3), semOf d r s = semOf d' r' s' → d = d' ∧ r = r' ∧ s = s' := by
  decide +kernel

/-! ## The blocks that travel -/

/-- What a load of 1024 rows by 512 columns at offsets `off` reads of a device's input. -/
def chunk (X : S2048x2048.Idx → Elt F .bf16) (off : Fin 2 → ℕ) (inb : ∀ a, off a + S1024x512.size a ≤ S2048x2048.size a) :
    S1024x512.Idx → Elt F .bf16 :=
  fun j => X ((Rect.unit (s := S2048x2048) off S1024x512.size inb).emb j)

/-- The block of its own input that a device sends first. -/
def first (d : Bool) (X : Dev nD → S2048x2048.Idx → Elt F .bf16) (c : Dev nD) : S1024x512.Idx → Elt F .bf16 :=
  match d with
  | true => chunk (X c) (k0_off1 c) (k0_off1_inb c)
  | false => chunk (X c) (k0_off2 c) (k0_off2_inb c)

/-- The block of its own input that a device adds to what it receives at step s. -/
def mine (d : Bool) (s : Fin 3) (X : Dev nD → S2048x2048.Idx → Elt F .bf16) (c : Dev nD) : S1024x512.Idx → Elt F .bf16 :=
  match d with
  | true => chunk (X c) (k0_off3 c (BitVec.ofNat 32 s.val)) (k0_off3_inb c s)
  | false => chunk (X c) (k0_off4 c (BitVec.ofNat 32 s.val)) (k0_off4_inb c s)

/-- The block that a device sends at step s. -/
def sent (d : Bool) (X : Dev nD → S2048x2048.Idx → Elt F .bf16) : Fin 3 → Dev nD → S1024x512.Idx → Elt F .bf16
  | 0, c => first d X c
  | 1, c => addf (φ := .bf16) (first d X (prv d c)) (mine d 0 X c)
  | 2, c => addf (φ := .bf16) (addf (φ := .bf16) (first d X (prv d (prv d c))) (mine d 0 X (prv d c))) (mine d 1 X c)

/-- The block that a device receives at step s. -/
def got (d : Bool) (X : Dev nD → S2048x2048.Idx → Elt F .bf16) (s : Fin 3) (c : Dev nD) : S1024x512.Idx → Elt F .bf16 := sent d X s (prv d c)

/-- The half of its result that a device computes in a direction: the block received last and its own, added as 32-bit floats. -/
def half (d : Bool) (X : Dev nD → S2048x2048.Idx → Elt F .bf16) (c : Dev nD) : S1024x512.Idx → Elt F .f32 :=
  addf (φ := .f32) (extf .f32 (got d X 2 c) bitsLt_bf16_f32) (extf .f32 (mine d 2 X c) bitsLt_bf16_f32)

/-- The index of a block at a row and a column. -/
def ix (r : Fin 1024) (k : Fin 512) : S1024x512.Idx := fun
  | 0 => r
  | 1 => k

/-- A device's result: the upper 1024 rows of one direction, the lower 1024 rows of the other. -/
def result (X : Dev nD → S2048x2048.Idx → Elt F .bf16) (c : Dev nD) : S2048x512.Idx → Elt F .f32 := fun i =>
  if h : (i 0).val < 1024 then half true X c (ix ⟨(i 0).val, h⟩ (i 1))
  else half false X c (ix ⟨(i 0).val - 1024, by have : (i 0).val < 2048 := (i 0).isLt; omega⟩ (i 1))

theorem pay1_eq (v : Vec F S1024x512 .bf16) : k0_pay1 v = one v := by
  unfold k0_pay1; exact congrArg one (shapeCast_self _ _)
theorem pay2_eq (v : Vec F S1024x512 .bf16) : k0_pay2 v = one v := by
  unfold k0_pay2; exact congrArg one (shapeCast_self _ _)
theorem pay3_eq (X v : S1024x512.Idx → Elt F .bf16) : k0_pay3 (one X) v = one (addf (φ := .bf16) X v) := by
  unfold k0_pay3; exact congrArg one (congrArg₂ (addf (φ := .bf16)) (blk_one X) (shapeCast_self _ _))
theorem pay4_eq (X v : S1024x512.Idx → Elt F .bf16) : k0_pay4 (one X) v = one (addf (φ := .bf16) X v) := by
  unfold k0_pay4; exact congrArg one (congrArg₂ (addf (φ := .bf16)) (blk_one X) (shapeCast_self _ _))
theorem pay5_eq (X v : S1024x512.Idx → Elt F .bf16) : k0_pay5 (one X) v = one (addf (φ := .bf16) X v) := by
  unfold k0_pay5; exact congrArg one (congrArg₂ (addf (φ := .bf16)) (blk_one X) (shapeCast_self _ _))
theorem pay67_eq (X v : S1024x512.Idx → Elt F .bf16) : k0_pay7 (k0_pay6 (one X) v) = one (addf (φ := .bf16) X v) := by
  unfold k0_pay7 k0_pay6; exact congrArg one (congrArg₂ (addf (φ := .bf16)) (blk_one X) (shapeCast_self _ _))
theorem pay8_eq (X v : S1024x512.Idx → Elt F .bf16) :
    k0_pay8 (one X) v = addf (φ := .f32) (extf .f32 X bitsLt_bf16_f32) (extf .f32 v bitsLt_bf16_f32) := by
  unfold k0_pay8
  exact congrArg₂ (fun a b => addf (φ := .f32) (extf .f32 a bitsLt_bf16_f32) (extf .f32 b bitsLt_bf16_f32)) (blk_one X) (shapeCast_self _ _)
theorem pay9_eq (X v : S1024x512.Idx → Elt F .bf16) :
    k0_pay9 (one X) v = addf (φ := .f32) (extf .f32 X bitsLt_bf16_f32) (extf .f32 v bitsLt_bf16_f32) := by
  unfold k0_pay9
  exact congrArg₂ (fun a b => addf (φ := .f32) (extf .f32 a bitsLt_bf16_f32) (extf .f32 b bitsLt_bf16_f32)) (blk_one X) (shapeCast_self _ _)

end Cert.Ring
end
-- ==== Proof.Schedule.lean ====
/-
  The protocol of the two rings. Every device has one barrier cell, on which each of its two neighbours signals once, and twelve cells of copies: for each direction
  and step, one on the sending side and one on the receiving side. Every cell has one round.

  - The signal of a neighbour hands over the three slots in which that neighbour receives from this device, and says that the neighbour's receiving cells are open.
  - A copy hands its destination's owner the slot at the block sent, and its sender the source slot back.

  The dues of a device at launch, the order in which it pays them, and why each of its waits may wait.
-/
module

public import proofs.«01_k».proof.Proof.Ring

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL addL addL_eq Fam)

variable {F : FTy → Type} [FloatOps F]

/-! ## The resources -/

/-- The rounds of the pipeline's own cells, and the rounds of the rings. -/
abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## Cells -/

/-- What a semaphore is for. -/
inductive Key where
  | bar
  | copy (d rcv : Bool) (s : Fin 3)
  | other
  deriving DecidableEq

/-- What a DMA semaphore is for, by its number. -/
def keyD : DmaSem sig → Key := fun v => match v.val with
  | 2 => .copy true false 0 | 3 => .copy true false 1 | 4 => .copy true false 2
  | 5 => .copy true true 0 | 6 => .copy true true 1 | 7 => .copy true true 2
  | 8 => .copy false false 0 | 9 => .copy false false 1 | 10 => .copy false false 2
  | 11 => .copy false true 0 | 12 => .copy false true 1 | 13 => .copy false true 2
  | _ => .other

/-- What a semaphore is for. -/
def key : SemLoc sig → Key
  | .reg q => if q = barrier0 then .bar else .other
  | .dma q => keyD q

/-- A device's barrier cell. -/
abbrev barC (c : Dev nD) : GSem nD τ sig := ((c.tc : Thread nD τ), .reg barrier0)
/-- A device's cell of a direction, side and step. -/
abbrev cell (d rcv : Bool) (s : Fin 3) (c : Dev nD) : GSem nD τ sig := ((c.tc : Thread nD τ), .dma (semOf d rcv s))

theorem key_bar : key (.reg barrier0) = .bar := by decide
theorem key_copy : ∀ (d r : Bool) (s : Fin 3), key (.dma (semOf d r s)) = .copy d r s := by decide

/-- The units that a copy of one slot credits. -/
def N : ℕ := (slot (buf true true) 0).view.dmaCredit

theorem N_pos : 0 < N := View.dmaCredit_pos _ (by decide)

/-- Every slot's copy credits as many units. -/
theorem credit_eq : ∀ (d r : Bool) (s : Fin 3), (slot (buf d r) s).view.dmaCredit = N
  | true, true, _ | true, false, _ | false, true, _ | false, false, _ => rfl

/-! ## The schedule -/

/-- A slot on a device at some contents. -/
def anySlot (d r : Bool) (s : Fin 3) (c : Dev nD) : sProp 𝕄 := iprop(∃ X, owns (c : Thread nD τ) (slot (buf d r) s) fullShare X)

/-- Room to receive one copy: the slot, and that its cell is open. -/
def room (d : Bool) (s : Fin 3) (c : Dev nD) : sProp 𝕄 := iprop(anySlot d true s c ∗ reached ER (cell d true s c) 0)

variable (X : Dev nD → S2048x2048.Idx → Elt F .bf16)

/-- What the payment of a duty hands to the owner of the cell. -/
def pays (c : Dev nD) (d : Bool) : Key → sProp 𝕄
  | .bar => iprop(room d 0 (nxt d c) ∗ room d 1 (nxt d c) ∗ room d 2 (nxt d c))
  | .copy e true s => owns (c : Thread nD τ) (slot (buf e true) s) fullShare (got e X s c)
  | .copy e false s => anySlot e false s c
  | .other => iprop(emp)

/-- The duties of a cell, by what it is for. -/
def dutiesK : Key → Finset Bool
  | .bar => {true, false}
  | .copy _ _ _ => {true}
  | .other => ∅

/-- The schedule of the rings, at the contents X of the devices' inputs. -/
def Rd : Schedule (GSem nD τ sig) Bool 𝕄 where
  duties g r := if r = 0 ∧ g.1.2 = .tc then dutiesK (key g.2) else ∅
  amount g _ _ := if key g.2 = .bar then 1 else N
  payload g _ d := pays X g.1.1 d (key g.2)
  amount_pos g _ _ _ := by
    by_cases h : key g.2 = .bar
    · rw [if_pos h]; exact Nat.one_pos
    · rw [if_neg h]; exact N_pos

instance anySlot_storable (d r : Bool) (s : Fin 3) (c : Dev nD) : BI.Storable (upEmb : UEmb _ 𝕄) (anySlot (F := F) d r s c) := by
  unfold anySlot; infer_instance

instance room_storable (d : Bool) (s : Fin 3) (c : Dev nD) : BI.Storable (upEmb : UEmb _ 𝕄) (room (F := F) d s c) := by
  unfold room; infer_instance

instance pays_storable (c : Dev nD) (d : Bool) (k : Key) : BI.Storable (upEmb : UEmb _ 𝕄) (pays X c d k) := by
  rcases k with _ | ⟨e, r, s⟩ | _
  · unfold pays; infer_instance
  · cases r
    · unfold pays; infer_instance
    · unfold pays; infer_instance
  · unfold pays; infer_instance

instance Rd_storable (g : GSem nD τ sig) (r : ℕ) (d : Bool) : BI.Storable (upEmb : UEmb _ 𝕄) ((Rd X).payload g r d) :=
  pays_storable X g.1.1 d (key g.2)

theorem duties_bar (c : Dev nD) : (Rd X).duties (barC c) 0 = {true, false} := by
  dsimp only [Rd]
  rw [if_pos ⟨rfl, rfl⟩, key_bar]; rfl
theorem duties_copy (d r : Bool) (s : Fin 3) (c : Dev nD) : (Rd X).duties (cell d r s c) 0 = {true} := by
  dsimp only [Rd]
  rw [if_pos ⟨rfl, rfl⟩, key_copy]; rfl
theorem duties_later (g : GSem nD τ sig) (r : ℕ) (h : 0 + 1 ≤ r) : (Rd X).duties g r = ∅ := if_neg fun e => by omega

theorem amount_bar (c : Dev nD) (d : Bool) : (Rd X).amount (barC c) 0 d = 1 := by
  dsimp only [Rd]; exact if_pos key_bar
theorem amount_copy (e r : Bool) (s : Fin 3) (c : Dev nD) (d : Bool) : (Rd X).amount (cell e r s c) 0 d = N :=
  if_neg fun h => by rw [show key (cell e r s c).2 = _ from key_copy e r s] at h; cases h

theorem expect_bar (c : Dev nD) : (Rd X).expect (barC c) 0 = 2 := by
  unfold Schedule.expect Schedule.amountOf
  rw [duties_bar, Finset.sum_insert (by decide), Finset.sum_singleton, amount_bar, amount_bar]
theorem expect_copy (d r : Bool) (s : Fin 3) (c : Dev nD) : (Rd X).expect (cell d r s c) 0 = N := by
  unfold Schedule.expect Schedule.amountOf
  rw [duties_copy, Finset.sum_singleton, amount_copy]

theorem payload_bar (c : Dev nD) (d : Bool) :
    (Rd X).payload (barC c) 0 d = iprop(room d 0 (nxt d c) ∗ room d 1 (nxt d c) ∗ room d 2 (nxt d c)) := by
  show pays X c d (key (.reg barrier0)) = _
  rw [key_bar]; rfl
theorem payload_recv (e : Bool) (s : Fin 3) (c : Dev nD) (d : Bool) :
    (Rd X).payload (cell e true s c) 0 d = owns (c : Thread nD τ) (slot (buf e true) s) fullShare (got e X s c) := by
  show pays X c d (key (.dma (semOf e true s))) = _
  rw [key_copy]; rfl
theorem payload_send (e : Bool) (s : Fin 3) (c : Dev nD) (d : Bool) : (Rd X).payload (cell e false s c) 0 d = anySlot e false s c := by
  show pays X c d (key (.dma (semOf e false s))) = _
  rw [key_copy]; rfl

/-- What a device holds after its barrier: room in both neighbours. -/
theorem rest_bar (c : Dev nD) : bigSep ((Rd X).duties (barC c) 0 \ ∅) (fun d => (Rd X).payload (barC c) 0 d)
    = iprop((room true 0 (nxt true c) ∗ room true 1 (nxt true c) ∗ room true 2 (nxt true c))
      ∗ (room false 0 (nxt false c) ∗ room false 1 (nxt false c) ∗ room false 2 (nxt false c))) := by
  rw [Finset.sdiff_empty, duties_bar, bigSep_insert (by decide), bigSep_singleton, payload_bar, payload_bar]; rfl
/-- What a device holds after it waited for a copy to arrive. -/
theorem rest_recv (e : Bool) (s : Fin 3) (c : Dev nD) : bigSep ((Rd X).duties (cell e true s c) 0 \ ∅) (fun d => (Rd X).payload (cell e true s c) 0 d)
    = owns (c : Thread nD τ) (slot (buf e true) s) fullShare (got e X s c) := by
  rw [Finset.sdiff_empty, duties_copy, bigSep_singleton, payload_recv]
/-- What a device holds after it waited for a copy of its own to have been sent. -/
theorem rest_send (e : Bool) (s : Fin 3) (c : Dev nD) : bigSep ((Rd X).duties (cell e false s c) 0 \ ∅) (fun d => (Rd X).payload (cell e false s c) 0 d)
    = anySlot e false s c := by
  rw [Finset.sdiff_empty, duties_copy, bigSep_singleton, payload_send]

/-! ## The dues -/

/-- The units that a device's copy of a direction and step owes to its receiver. -/
abbrev payR (d : Bool) (s : Fin 3) (c : Dev nD) : Pay nD τ sig := (cell d true s (nxt d c), 2 + s.val, N)
/-- The unit that a device's signal owes to the neighbour from which it receives in a direction. -/
abbrev payB (d : Bool) (c : Dev nD) : Pay nD τ sig := (barC (prv d c), 1, 1)

/-- What a device owes at launch, paid from the end. -/
abbrev dueL (c : Dev nD) : List (Pay nD τ sig) :=
  [payR false 2 c, payR true 2 c, payR false 1 c, payR true 1 c, payR false 0 c, payR true 0 c, payB false c, payB true c]

/-- A device's dues at launch. -/
def O₀ (c : Dev nD) : CellTallies nD τ sig ℕ := tallyL (dueL c)

/-- The credits of a device's own cells. -/
abbrev credL (c : Dev nD) : List (Pay nD τ sig) :=
  [(cell false true 2 c, 2 + (2 : Fin 3).val, N), (cell true true 2 c, 2 + (2 : Fin 3).val, N), (cell false true 1 c, 2 + (1 : Fin 3).val, N),
    (cell true true 1 c, 2 + (1 : Fin 3).val, N), (cell false true 0 c, 2 + (0 : Fin 3).val, N), (cell true true 0 c, 2 + (0 : Fin 3).val, N), (barC c, 1, 2)]

theorem O₀_addL (c : Dev nD) : O₀ c = addL 0 (dueL c) := by rw [addL_eq, zero_add]; rfl

/-- A sum over the devices of tallies at the next device's cell is the sum of tallies at the devices' own cells. -/
theorem sum_nxt (d : Bool) (sm : SemLoc sig) (i n : ℕ) :
    (∑ c : Dev nD, (tallyAt ((nxt d c).tc, sm) i n : CellTallies nD τ sig ℕ)) = ∑ c : Dev nD, tallyAt (c.tc, sm) i n :=
  Equiv.sum_comp (ring d) fun c => (tallyAt ((c.tc : Thread nD τ), sm) i n : CellTallies nD τ sig ℕ)
theorem sum_prv (d : Bool) (sm : SemLoc sig) (i n : ℕ) :
    (∑ c : Dev nD, (tallyAt ((prv d c).tc, sm) i n : CellTallies nD τ sig ℕ)) = ∑ c : Dev nD, tallyAt (c.tc, sm) i n :=
  Equiv.sum_comp (ring d).symm fun c => (tallyAt ((c.tc : Thread nD τ), sm) i n : CellTallies nD τ sig ℕ)

/-- All dues together are all credits together. -/
theorem sum_due : (∑ c : Dev nD, O₀ c) = ∑ c : Dev nD, tallyL (credL c) := by
  simp only [O₀, tallyL, Finset.sum_add_distrib, Pay.tally, sum_nxt, sum_prv, add_zero, Finset.sum_const_zero]
  rw [← Finset.sum_add_distrib]
  simp only [tallyAt_add]

/-- The launch deals every device the credits of its own cells. -/
theorem launch_cred (c : Dev nD) : (Pipeline.launchCred O₀ c : sProp 𝕄) = bigSepL (credL c) fun x => cred x.tally := by
  rw [Pipeline.launchCred_of_sum O₀ (fun c => tallyL (credL c)) sum_due ?_ c, TalkSites.cred_tallyL]
  intro d g h
  obtain ⟨i, hi⟩ : ∃ i, tallyL (credL d) g i ≠ 0 := by
    by_contra hn
    exact h (Finsupp.ext fun i => not_not.mp (not_exists.mp hn i))
  obtain ⟨x, hx, rfl, -⟩ := TalkSites.tallyL_pos (Nat.pos_of_ne_zero hi)
  simp only [List.mem_cons, List.not_mem_nil, or_false] at hx
  rcases hx with rfl | rfl | rfl | rfl | rfl | rfl | rfl <;> rfl

/-- A wait at an index may wait while the device owes payments at greater indices only. -/
theorem may_wait (i : ℕ) (hi : i < 5) (c : Dev nD) (sm : SemLoc sig) (l : List (Pay nD τ sig))
    (hl : ∀ x ∈ l, x.1.1.2 = .tc ∧ i < x.2.1 ∧ x.2.1 < 5) :
    (levAts (L 5) lv : sProp 𝕄) ⊢ MayWait (c : Thread nD τ) sm i (addL (0 : CellTallies nD τ sig ℕ) l) :=
  TalkSites.mayWait_addL (O := fun _ => 0) hi le_rfl (SiteBlocks.above_zero 5 5) c sm l hl

/-! ## The family of the launch's cells and tokens -/

/-- The semaphores of the copies. -/
def semE : Bool × Bool × Fin 3 ↪ SemLoc sig := ⟨fun x => .dma (semOf x.1 x.2.1 x.2.2), fun x y h => by
  obtain ⟨h1, h2, h3⟩ := semOf_inj _ _ _ _ _ _ (SemLoc.dma.inj h)
  exact Prod.ext h1 (Prod.ext h2 h3)⟩

/-- The duties that a device pays: a signal to each neighbour, and for each direction and step its copy's arrival and its copy's departure. -/
def tokAt (c : Dev nD) : Bool ⊕ (Bool × Bool × Fin 3) → GSem nD τ sig × ℕ × Bool
  | .inl d => (barC (prv d c), 0, d)
  | .inr (d, true, s) => (cell d true s (nxt d c), 0, true)
  | .inr (d, false, s) => (cell d false s c, 0, true)

/-- The device that pays a duty. -/
def payer (x : GSem nD τ sig × ℕ × Bool) : Dev nD := match key x.1.2 with
  | .bar => nxt x.2.2 x.1.1.1
  | .copy d true _ => prv d x.1.1.1
  | .copy _ false _ => x.1.1.1
  | .other => x.1.1.1

/-- Which of its duties it is. -/
def which (x : GSem nD τ sig × ℕ × Bool) : Bool ⊕ (Bool × Bool × Fin 3) := match key x.1.2 with
  | .bar => .inl x.2.2
  | .copy d r s => .inr (d, r, s)
  | .other => .inl true

theorem which_tokAt (c : Dev nD) (t : Bool ⊕ (Bool × Bool × Fin 3)) : which (tokAt c t) = t := by
  rcases t with d | ⟨d, r, s⟩
  · unfold which tokAt; rw [show key (barC (prv d c)).2 = _ from key_bar]
  · cases r <;> (unfold which tokAt; simp only [key_copy])
theorem payer_tokAt (c : Dev nD) (t : Bool ⊕ (Bool × Bool × Fin 3)) : payer (tokAt c t) = c := by
  rcases t with d | ⟨d, r, s⟩
  · unfold payer tokAt; rw [show key (barC (prv d c)).2 = _ from key_bar]; exact nxt_prv d c
  · cases r
    · unfold payer tokAt; simp only [key_copy]
    · unfold payer tokAt; simp only [key_copy]; exact prv_nxt d c

/-- The same as an embedding. -/
def tokE (c : Dev nD) : Bool ⊕ (Bool × Bool × Fin 3) ↪ GSem nD τ sig × ℕ × Bool := ⟨tokAt c, Function.LeftInverse.injective (g := which) (which_tokAt c)⟩

/-- The barrier cells, the cells of the copies and the tokens that the launch deals. -/
def fam : Fam nD τ sig Bool 1 where
  bar := .reg barrier0
  dorm _ := Finset.univ.map semE
  toks c _ := Finset.univ.map (tokE c)
  semKey _ := 0
  hsem j _ _ := (Fin.fin_one_eq_zero j).symm
  hbar _ h := by obtain ⟨x, -, e⟩ := Finset.mem_map.mp h; cases e
  tokKey x := (payer x, 0)
  htok c j x hx := by
    obtain ⟨t, -, rfl⟩ := Finset.mem_map.mp hx
    exact Prod.ext (payer_tokAt c t) (Fin.fin_one_eq_zero j).symm

theorem mem_dorm (d r : Bool) (s : Fin 3) : (SemLoc.dma (semOf d r s) : SemLoc sig) ∈ fam.dorm 0 :=
  Finset.mem_map.mpr ⟨(d, r, s), Finset.mem_univ _, rfl⟩

/-- The neighbours of a device. -/
def nb (c : Dev nD) : Finset (Dev nD) := {prv true c, prv false c}

theorem prv_ne : ∀ c : Dev nD, prv true c ≠ prv false c := by decide +kernel

/-- The twelve cells of the copies, one after the other. -/
abbrev idxL : List (Bool × Bool × Fin 3) :=
  [(true, false, 0), (true, false, 1), (true, false, 2), (true, true, 0), (true, true, 1), (true, true, 2),
    (false, false, 0), (false, false, 1), (false, false, 2), (false, true, 0), (false, true, 1), (false, true, 2)]

theorem bigSep_idx {M : Type} [URA M] (Φ : Bool × Bool × Fin 3 → sProp M) : bigSep Finset.univ Φ = bigSepL idxL Φ :=
  bigSep_eq_bigSepL_of_eq idxL (by decide) (by decide) Φ
theorem bigSep_tok {M : Type} [URA M] (Φ : Bool ⊕ (Bool × Bool × Fin 3) → sProp M) :
    bigSep Finset.univ Φ = bigSepL ([.inl true, .inl false] ++ idxL.map .inr) Φ :=
  bigSep_eq_bigSepL_of_eq _ (by decide) (by decide) Φ

end Cert.Ring
end
-- ==== Proof.Steps.lean ====
/-
  One rule for each kind of step that the kernel takes: a signal to a neighbour, the wait for both neighbours, the send of a block, the wait for a block to arrive, the wait for a
  sent block to have left, a load of the input, a load and a store of a slot, a store of half of the result.
-/
module

public import proofs.«01_k».proof.Proof.Schedule

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL addL addL_eq Fam)

variable {F : FTy → Type} [FloatOps F]

local notation "𝕄" => MT nD τ sig ℕ (Elt F) ℕ UU ℕ

abbrev 𝒱₀ : Variants := Variants.none

variable (X : Dev nD → S2048x2048.Idx → Elt F .bf16) (κ : GSem nD τ sig → ℕ) (c : Dev nD)

/-- The invariants of all cells and the levels: what every step may use again and again. -/
def ctx : sProp 𝕄 := iprop(fam.cellInvs ER (Rd X) κ ∗ levAts (L 5) lv)

instance ctx_persistent : BI.Persistent (ctx X κ) := by unfold ctx; infer_instance

theorem ctx_bar (e : Dev nD) : ctx X κ ⊢ cellInv ER (Rd X) (κ (barC e)) (barC e) := by
  unfold ctx; iintro ⟨H, -⟩; iapply (fam.cellInvs_bar ER (Rd X) κ e); iexact H
theorem ctx_copy (d r : Bool) (s : Fin 3) (e : Dev nD) : ctx X κ ⊢ cellInv ER (Rd X) (κ (cell d r s e)) (cell d r s e) := by
  unfold ctx; iintro ⟨H, -⟩; iapply (fam.cellInvs_dorm ER (Rd X) κ e (mem_dorm d r s)); iexact H

/-- What a device still owes when its n last payments are left. -/
def due (n : ℕ) : CellTallies nD τ sig ℕ := addL 0 ((dueL c).take n)

/-- A device owes a tally, whatever it waited for. -/
def debt (O : CellTallies nD τ sig ℕ) : sProp 𝕄 := iprop(∃ W, owes (c : Thread nD τ) O W)

/-- The indices of the dues. -/
abbrev dueI : List ℕ := [4, 4, 3, 3, 2, 2, 1, 1]

/-- A wait at an index below those of the dues left may wait. -/
theorem ctx_wait (n i : ℕ) (sm : SemLoc sig) (hi : i < 5) (h : ∀ j ∈ dueI.take n, i < j ∧ j < 5) :
    ctx X κ ⊢ MayWait (c : Thread nD τ) sm i (due c n) := by
  unfold ctx; iintro ⟨-, H⟩
  iapply (may_wait i hi c sm ((dueL c).take n) ?_) $$ H
  intro x hx
  have h1 : x.2.1 ∈ dueI.take n := by
    rw [show dueI = (dueL c).map (fun x => x.2.1) from rfl, ← List.map_take]
    exact List.mem_map_of_mem hx
  refine ⟨?_, h _ h1⟩
  have hm := List.mem_of_mem_take hx
  simp only [List.mem_cons, List.not_mem_nil, or_false] at hm
  rcases hm with rfl | rfl | rfl | rfl | rfl | rfl | rfl | rfl <;> rfl

variable {α : Type} {Q : α → sProp (MT nD τ sig ℕ (Elt F) ℕ UU ℕ)}

/-- That a program runs on a device's TensorCore and ends as stated. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has ended. -/
theorem run_ret (a : α) : Q a ⊢ run c (.ret a) Q := by
  unfold run; rw [wp_ret]; iintro H; imodintro; iexact H

/-- One program after another. -/
theorem run_bind {β : Type} (p : Prog (TpuEff nD τ sig (Elt F) Λ₀ .tc) β) (k : β → Prog (TpuEff nD τ sig (Elt F) Λ₀ .tc) α) :
    run c p (fun a => run c (k a) Q) ⊢ run c (p >>= k) Q := by
  unfold run; rw [wp_bind]

/-- A signal to the neighbour from which the device receives hands over the room to receive. -/
theorem wp_signal_nb (d : Bool) {n : Dev nD} (hn : n = prv d c) (O : CellTallies nD τ sig ℕ) {O' : CellTallies nD τ sig ℕ}
    (hO : O' = O + tallyAt (barC (prv d c)) 1 1) {k : PUnit → Prog (TpuEff nD τ sig (Elt F) Λ₀ .tc) α} :
    iprop(ctx X κ ∗ debt c O' ∗ dutyTok ER (barC (prv d c)) 0 d ∗ reached ER (barC (prv d c)) 0 ∗ (room d 0 c ∗ room d 1 c ∗ room d 2 c))
      ⊢ iprop((debt c O -∗ run c (k ⟨⟩) Q) -∗ run c (.op (.semSignal n.tc barrier0 1) k) Q) := by
  subst hn
  unfold debt
  iintro ⟨#HI, ⟨%W, HO⟩, Ht, Hr, Hp⟩ Hk
  iapply (Rounds.wp_signal 𝒱₀ ER (Rd X) (c : Thread nD τ) none (dst := ((prv d c).tc : Thread nD τ)) (sem := barrier0) (r := 0) (d := d) (κ := κ (barC (prv d c)))
      (by rw [duties_bar]; cases d <;> decide) (amount_bar X (prv d c) d) 1 O hO) $$ [HO Ht Hr Hp]
  · isplitr; · iapply (ctx_bar X κ (prv d c)); iexact HI
    isplitl [HO]; · iexact HO
    isplitl [Ht]; · iexact Ht
    isplitl [Hp]; · rw [payload_bar, nxt_prv]; iexact Hp
    iexact Hr
  iintro HO
  iapply Hk; iexists W; iexact HO

/-- After the wait for both neighbours the device may send to both. -/
theorem wp_wait_nb (n : ℕ) (h : ∀ j ∈ dueI.take n, 1 < j ∧ j < 5) {k : PUnit → Prog (TpuEff nD τ sig (Elt F) Λ₀ .tc) α} :
    iprop(ctx X κ ∗ debt c (due c n) ∗ cred (tallyAt (barC c) 1 2) ∗ atPos ER (barC c) 0 ∅ 0)
      ⊢ iprop(((debt c (due c n) ∗ atPos ER (barC c) (0 + 1) ∅ 0
            ∗ (room true 0 (nxt true c) ∗ room true 1 (nxt true c) ∗ room true 2 (nxt true c))
            ∗ (room false 0 (nxt false c) ∗ room false 1 (nxt false c) ∗ room false 2 (nxt false c))) -∗ run c (k ⟨⟩) Q)
          -∗ run c (.op (.semWait barrier0 2) k) Q) := by
  unfold debt
  iintro ⟨#HI, ⟨%W, HO⟩, Hc, Ha⟩ Hk
  iapply (Rounds.wp_wait_rest_token 𝒱₀ ER (Rd X) (c : Thread nD τ) none (κ := κ (barC c))
      (wpE_semWait_eq 𝒱₀ (c : Thread nD τ) none Set.univ) (Set.mem_univ _) 1 (O := due c n) (W := W) (R := 0) (m := 0) (T := ∅)
      ((Nat.zero_add 2).trans (expect_bar X c).symm)) $$ [HO Hc Ha]
  · isplitr; · iapply (ctx_bar X κ c); iexact HI
    isplitl [Hc]; · iexact Hc
    isplitl [HO]; · iexact HO
    isplitr; · iapply (ctx_wait X κ c n 1 _ (by decide) h); iexact HI
    iexact Ha
  iintro ⟨HO, Ha, -, Hp⟩
  ihave Hp := (Entails.of_eq (rest_bar X c)) $$ Hp
  iapply Hk
  isplitl [HO]; · iexists _; iexact HO
  isplitl [Ha]; · iexact Ha
  iexact Hp

/-- The send of a slot into the next device's slot. -/
theorem wp_send_slot (d : Bool) (s : Fin 3) {n : Dev nD} (hn : n = nxt d c) (O : CellTallies nD τ sig ℕ) {O' : CellTallies nD τ sig ℕ}
    (hO : O' = O + tallyAt (cell d true s (nxt d c)) (2 + s.val) N)
    {hsc : (slot (buf d true) s).view.ref.isScScratch = false}
    {hsrc : (slot (buf d false) s).view.WordExact} {hdst : (slot (buf d true) s).view.WordExact}
    {hsem : DmaTarget.Typed (nD := nD) (τ := τ) .vmem (.dma (semOf d true s)) (.remote (n.tc : Thread nD τ) (slot (buf d true) s) (.dma (semOf d false s)) hsc)}
    {k : PUnit → Prog (TpuEff nD τ sig (Elt F) Λ₀ .tc) α} :
    iprop(ctx X κ ∗ debt c O' ∗ owns (c : Thread nD τ) (slot (buf d false) s) fullShare (sent d X s c) ∗ room d s (nxt d c)
        ∗ dutyTok ER (cell d false s c) 0 true ∗ reached ER (cell d false s c) 0 ∗ dutyTok ER (cell d true s (nxt d c)) 0 true)
      ⊢ iprop(((debt c O ∗ cred (tallyAt (cell d false s c) 0 N)) -∗ run c (k ⟨⟩) Q)
          -∗ run c (.op (.enqueueDma (slot (buf d false) s) (.remote (n.tc : Thread nD τ) (slot (buf d true) s) (.dma (semOf d false s)) hsc) (.dma (semOf d true s))
            hsrc hdst hsem) k) Q) := by
  subst hn
  unfold debt room anySlot owns
  iintro ⟨#HI, ⟨%W, HO⟩, ⟨%fs, %hfs, Hs⟩, ⟨⟨%Y, %fd, -, Hd⟩, Hrr⟩, Hts, Hrs, Htr⟩ Hk
  iapply (Rounds.wp_send_pointsTo 𝒱₀ ER (Rd X) (c : Thread nD τ) none (c' := ((nxt d c).tc : Thread nD τ)) (src := slot (buf d false) s) (dst := slot (buf d true) s)
      (sS := .dma (semOf d false s)) (sem := .dma (semOf d true s)) (q := fullShare) (fs := fs) (fd := fd)
      (κ₁ := κ (cell d false s c)) (κ₂ := κ (cell d true s (nxt d c))) (r₁ := 0) (r₂ := 0) (d₁ := true) (d₂ := true)
      (by rw [duties_copy]; exact Finset.mem_singleton_self _) (by rw [duties_copy]; exact Finset.mem_singleton_self _)
      (2 + s.val) 0 N (credit_eq d true s) (amount_copy X d false s c true) (amount_copy X d true s (nxt d c) true) O hO (W := W)
      (by
        rw [payload_send]; unfold anySlot
        iintro H; iexists _; iapply (owns_intro (c : Thread nD τ) (slot (buf d false) s) fullShare fs); iexact H)
      (by
        rw [payload_recv]; unfold got; rw [prv_nxt]
        refine (owns_intro ((nxt d c).tc : Thread nD τ) (slot (buf d true) s) fullShare _).trans (Entails.of_eq ?_)
        rw [View.read_write_univ, hfs])) $$ [HO Hs Hd Hrr Hts Hrs Htr]
  · isplitr; · iapply (ctx_copy X κ d false s c); iexact HI
    isplitr; · iapply (ctx_copy X κ d true s (nxt d c)); iexact HI
    isplitl [Hs]; · iexact Hs
    isplitl [Hd]; · iexact Hd
    isplitl [HO]; · iexact HO
    isplitl [Hts]; · iexact Hts
    isplitl [Hrs]; · iexact Hrs
    isplitl [Htr] <;> iassumption
  iintro ⟨Hc, HO⟩
  iapply Hk
  isplitl [HO]; · iexists W; iexact HO
  iexact Hc

/-- The wait for a block to arrive. -/
theorem wp_wait_recv (d : Bool) (s : Fin 3) (n : ℕ) (h : ∀ j ∈ dueI.take n, 2 + s.val < j ∧ j < 5)
    {sp sp' : Space} {src : Memref sig .tc sp S1024x512 .bf16} {dst : Memref sig .tc sp' S1024x512 .bf16} (hN : dst.view.dmaCredit = N)
    {h1 : src.view.WordExact} {h2 : dst.view.WordExact} {k : PUnit → Prog (TpuEff nD τ sig (Elt F) Λ₀ .tc) α} :
    iprop(ctx X κ ∗ debt c (due c n) ∗ cred (tallyAt (cell d true s c) (2 + s.val) N) ∗ atPos ER (cell d true s c) 0 ∅ 0)
      ⊢ iprop(((debt c (due c n) ∗ atPos ER (cell d true s c) (0 + 1) ∅ 0 ∗ owns (c : Thread nD τ) (slot (buf d true) s) fullShare (got d X s c)) -∗ run c (k ⟨⟩) Q)
          -∗ run c (.op (.waitDma2 (semOf d true s) src dst h1 h2) k) Q) := by
  unfold debt
  iintro ⟨#HI, ⟨%W, HO⟩, Hc, Ha⟩ Hk
  iapply (Rounds.wp_wait_rest_token 𝒱₀ ER (Rd X) (c : Thread nD τ) none (κ := κ (cell d true s c)) (k' := N)
      (fun K => (wpE_waitDma2_eq 𝒱₀ (c : Thread nD τ) none Set.univ K).trans (by rw [hN])) (Set.mem_univ _) (2 + s.val) (O := due c n) (W := W) (R := 0) (m := 0) (T := ∅)
      ((Nat.zero_add N).trans (expect_copy X d true s c).symm)) $$ [HO Hc Ha]
  · isplitr; · iapply (ctx_copy X κ d true s c); iexact HI
    isplitl [Hc]; · iexact Hc
    isplitl [HO]; · iexact HO
    isplitr; · iapply (ctx_wait X κ c n (2 + s.val) _ (by have := s.isLt; omega) h); iexact HI
    iexact Ha
  iintro ⟨HO, Ha, -, Hp⟩
  ihave Hp := (Entails.of_eq (rest_recv X d s c)) $$ Hp
  iapply Hk
  isplitl [HO]; · iexists _; iexact HO
  isplitl [Ha]; · iexact Ha
  iexact Hp

/-- The wait for a sent block to have left. -/
theorem wp_wait_sent (d : Bool) (s : Fin 3) (n : ℕ) (h : ∀ j ∈ dueI.take n, 0 < j ∧ j < 5)
    {sp sp' : Space} {src : Memref sig .tc sp S1024x512 .bf16} {dst : Memref sig .tc sp' S1024x512 .bf16} (hN : dst.view.dmaCredit = N)
    {h1 : src.view.WordExact} {h2 : dst.view.WordExact} {k : PUnit → Prog (TpuEff nD τ sig (Elt F) Λ₀ .tc) α} :
    iprop(ctx X κ ∗ debt c (due c n) ∗ cred (tallyAt (cell d false s c) 0 N) ∗ atPos ER (cell d false s c) 0 ∅ 0)
      ⊢ iprop(((debt c (due c n) ∗ atPos ER (cell d false s c) (0 + 1) ∅ 0 ∗ anySlot d false s c) -∗ run c (k ⟨⟩) Q)
          -∗ run c (.op (.waitDma2 (semOf d false s) src dst h1 h2) k) Q) := by
  unfold debt
  iintro ⟨#HI, ⟨%W, HO⟩, Hc, Ha⟩ Hk
  iapply (Rounds.wp_wait_rest_token 𝒱₀ ER (Rd X) (c : Thread nD τ) none (κ := κ (cell d false s c)) (k' := N)
      (fun K => (wpE_waitDma2_eq 𝒱₀ (c : Thread nD τ) none Set.univ K).trans (by rw [hN])) (Set.mem_univ _) 0 (O := due c n) (W := W) (R := 0) (m := 0) (T := ∅)
      ((Nat.zero_add N).trans (expect_copy X d false s c).symm)) $$ [HO Hc Ha]
  · isplitr; · iapply (ctx_copy X κ d false s c); iexact HI
    isplitl [Hc]; · iexact Hc
    isplitl [HO]; · iexact HO
    isplitr; · iapply (ctx_wait X κ c n 0 _ (by decide) h); iexact HI
    iexact Ha
  iintro ⟨HO, Ha, -, Hp⟩
  ihave Hp := (Entails.of_eq (rest_send X d s c)) $$ Hp
  iapply Hk
  isplitl [HO]; · iexists _; iexact HO
  isplitl [Ha]; · iexact Ha
  iexact Hp

/-- A load of 1024 rows by 512 columns of the input. -/
theorem wp_load_x (x : S2048x2048.Idx → Elt F .bf16) (off : Fin 2 → ℕ) (inb : ∀ a, off a + S1024x512.size a ≤ S2048x2048.size a)
    {hl : (Memref.whole cc0_stg0_0).view.LoadsAt (Rect.unit (s := S2048x2048) off S1024x512.size inb).toLoadRect}
    {k : (S1024x512.Idx → Elt F .bf16) → Prog (TpuEff nD τ sig (Elt F) Λ₀ .tc) α} :
    owns (c : Thread nD τ) (Memref.whole cc0_stg0_0) fullShare x
      ⊢ iprop((owns (c : Thread nD τ) (Memref.whole cc0_stg0_0) fullShare x -∗ run c (k (chunk x off inb)) Q)
          -∗ run c (.op (.load (Memref.whole cc0_stg0_0) (Rect.unit (s := S2048x2048) off S1024x512.size inb).toLoadRect hl) k) Q) := by
  rw [owns_whole]
  exact wp_load_rect (m := Memref.whole cc0_stg0_0) (r := Rect.unit (s := S2048x2048) off S1024x512.size inb) 𝒱₀ (c : Thread nD τ) none Set.univ (Finset.subset_univ _)

/-- A load of a slot. -/
theorem wp_load_slot (d r : Bool) (s : Fin 3) (Y : S1024x512.Idx → Elt F .bf16) {hl : (buf d r).view.LoadsAt (slotR s).toLoadRect}
    {k : (S1x1024x512.Idx → Elt F .bf16) → Prog (TpuEff nD τ sig (Elt F) Λ₀ .tc) α} :
    owns (c : Thread nD τ) (slot (buf d r) s) fullShare Y
      ⊢ iprop((owns (c : Thread nD τ) (slot (buf d r) s) fullShare Y -∗ run c (k (one Y)) Q) -∗ run c (.op (.load (buf d r) (slotR s).toLoadRect hl) k) Q) := by
  unfold owns
  iintro ⟨%f, %hf, H⟩ Hk
  iapply (wp_load_rect (m := buf d r) (r := slotR s) 𝒱₀ (c : Thread nD τ) none Set.univ (slot_set d r s).ge) $$ H
  iintro H
  have e : (Memref.access (buf d r) (slotR s)).read (Elt F) f = one Y := by rw [← hf, slot_read, one_blk]
  rw [e]
  iapply Hk; iexists f
  isplitr; · ipureintro; exact hf
  iexact H

/-- A slot reads the block last stored in it. -/
theorem slot_write (B : Memref sig .tc .vmem S3x1024x512 .bf16) (s : Fin 3) (f : B.view.ty.Contents (Elt F)) (w : S1x1024x512.Idx → Elt F .bf16) :
    (slot B s).view.read (Elt F) ((Memref.access B (slotR s)).write (Elt F) f w Finset.univ) = blk w := by
  rw [slot_read]; exact congrArg blk (View.read_write_univ (v := Memref.access B (slotR s)) f w)

/-- A store of a slot. -/
theorem wp_store_slot (d r : Bool) (s : Fin 3) {w : S1x1024x512.Idx → Elt F .bf16} {Y : S1024x512.Idx → Elt F .bf16} (hw : blk w = Y)
    {hx : ((buf d r).access (slotR s)).Stores Finset.univ} {hm : (Finset.univ : Finset S1x1024x512.Idx) = Finset.univ ∨ ∀ a, (slotR s).stride a = 1}
    {k : PUnit → Prog (TpuEff nD τ sig (Elt F) Λ₀ .tc) α} :
    anySlot d r s c
      ⊢ iprop((owns (c : Thread nD τ) (slot (buf d r) s) fullShare Y -∗ run c (k ⟨⟩) Q) -∗ run c (.op (.store (buf d r) (slotR s) w Finset.univ hx hm) k) Q) := by
  subst hw
  unfold anySlot owns
  iintro ⟨%Y, %f, -, H⟩ Hk
  iapply (wp_store (m := buf d r) (r := slotR s) (w := w) (f := f) (Mk := Finset.univ) 𝒱₀ (c : Thread nD τ) none Set.univ (by rw [View.setOn_univ]; exact (slot_set d r s).ge)) $$ H
  iintro H
  iapply Hk; iexists ((Memref.access (buf d r) (slotR s)).write (Elt F) f w Finset.univ)
  isplitr
  · ipureintro; exact slot_write (buf d r) s f w
  iexact H

/-- The result's buffer after a store through a rectangle of it. -/
abbrev put (r : Rect S2048x512) (w : r.shape.Idx → Elt F .f32) (Y : S2048x512.Idx → Elt F .f32) : S2048x512.Idx → Elt F .f32 :=
  (Memref.access (Memref.whole cc0_stg1_0) r).write (Elt F) Y w Finset.univ

/-- A load of the result's buffer, the value of which is not used. -/
theorem wp_load_out (Y : S2048x512.Idx → Elt F .f32) (r : Rect S2048x512) {hl : (Memref.whole cc0_stg1_0).view.LoadsAt r.toLoadRect}
    {p : Prog (TpuEff nD τ sig (Elt F) Λ₀ .tc) α} :
    owns (c : Thread nD τ) (Memref.whole cc0_stg1_0) fullShare Y
      ⊢ iprop((owns (c : Thread nD τ) (Memref.whole cc0_stg1_0) fullShare Y -∗ run c p Q)
          -∗ run c (.op (.load (Memref.whole cc0_stg1_0) r.toLoadRect hl) fun _ => p) Q) := by
  rw [owns_whole]
  exact wp_load_rect (m := Memref.whole cc0_stg1_0) (r := r) (k := fun _ => p) (f := Y) (S := Finset.univ) 𝒱₀ (c : Thread nD τ) none Set.univ (Finset.subset_univ _)

/-- A store of part of the result. -/
theorem wp_store_out (Y : S2048x512.Idx → Elt F .f32) (r : Rect S2048x512) {w w' : r.shape.Idx → Elt F .f32} (hw : w = w')
    {hx : (Memref.access (Memref.whole cc0_stg1_0) r).Stores Finset.univ} {hm : (Finset.univ : Finset r.shape.Idx) = Finset.univ ∨ ∀ a, r.stride a = 1}
    {k : PUnit → Prog (TpuEff nD τ sig (Elt F) Λ₀ .tc) α} :
    owns (c : Thread nD τ) (Memref.whole cc0_stg1_0) fullShare Y
      ⊢ iprop((owns (c : Thread nD τ) (Memref.whole cc0_stg1_0) fullShare (put r w' Y) -∗ run c (k ⟨⟩) Q)
          -∗ run c (.op (.store (Memref.whole cc0_stg1_0) r w Finset.univ hx hm) k) Q) := by
  subst hw
  rw [owns_whole, owns_whole]
  exact wp_store (m := Memref.whole cc0_stg1_0) (r := r) (w := w) (f := Y) (Mk := Finset.univ) (S := Finset.univ) 𝒱₀ (c : Thread nD τ) none Set.univ (Finset.subset_univ _)

/-- Any slot's memory at named contents is that slot at some contents. -/
theorem any_of (d r : Bool) (s : Fin 3) (Y : S1024x512.Idx → Elt F .bf16) :
    owns (c : Thread nD τ) (slot (buf d r) s) fullShare Y ⊢ anySlot (F := F) d r s c := by
  unfold anySlot; iintro H; iexists Y; iexact H

/-- A load of a slot at some contents, the value of which is not used. -/
theorem wp_load_any (d r : Bool) (s : Fin 3) {hl : (buf d r).view.LoadsAt (slotR s).toLoadRect}
    {p : Prog (TpuEff nD τ sig (Elt F) Λ₀ .tc) α} :
    anySlot d r s c ⊢ iprop((anySlot d r s c -∗ run c p Q) -∗ run c (.op (.load (buf d r) (slotR s).toLoadRect hl) fun _ => p) Q) := by
  iintro H Hk
  unfold anySlot
  icases H with ⟨%Y, H⟩
  iapply (wp_load_slot c d r s Y (k := fun _ => p)) $$ H
  iintro H
  iapply Hk; iexists Y; iexact H

end Cert.Ring
end
-- ==== Proof.Body.lean ====
/-
  The kernel's body on one device, part by part.  The words that the parts hand to one another only name devices and offsets, so a part is described for any such words.
-/
module

public import proofs.«01_k».proof.Proof.Steps

@[expose] public section

set_option maxRecDepth 65536

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL addL addL_eq Fam)

variable {F : FTy → Type} [FloatOps F]

local notation "𝕄" => MT nD τ sig ℕ (Elt F) ℕ UU ℕ

/-- A part of the kernel, given the buffers and the semaphores of the launch. -/
abbrev app {β : Type*} (f : (arg0 : Memref sig .tc .vmem S2048x2048 .bf16) → arg0.IsWhole → (arg1 : Memref sig .tc .vmem S2048x512 .f32) → arg1.IsWhole
    → (arg2 : Memref sig .tc .vmem S3x1024x512 .bf16) → arg2.IsWhole → (arg3 : Memref sig .tc .vmem S3x1024x512 .bf16) → arg3.IsWhole
    → (arg4 : Memref sig .tc .vmem S3x1024x512 .bf16) → arg4.IsWhole → (arg5 : Memref sig .tc .vmem S3x1024x512 .bf16) → arg5.IsWhole
    → DmaSems sig S3 → DmaSems sig S3 → DmaSems sig S3 → DmaSems sig S3 → β) : β :=
  f (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7

variable (X : Dev nD → S2048x2048.Idx → Elt F .bf16) (κ : GSem nD τ sig → ℕ) (c : Dev nD)

/-- A device's input, in the staging buffer. -/
abbrev xin : sProp 𝕄 := owns (c : Thread nD τ) (Memref.whole cc0_stg0_0) fullShare (X c)
/-- A slot to send from, filled. -/
abbrev full (d : Bool) (s : Fin 3) : sProp 𝕄 := owns (c : Thread nD τ) (slot (buf d false) s) fullShare (sent d X s c)
/-- A slot received in, filled. -/
abbrev arrived (d : Bool) (s : Fin 3) : sProp 𝕄 := owns (c : Thread nD τ) (slot (buf d true) s) fullShare (got d X s c)

/-- What a device needs for the send of step s of a direction, beside the slot. -/
def sender (d : Bool) (s : Fin 3) : sProp 𝕄 :=
  iprop(room d s (nxt d c) ∗ dutyTok ER (cell d false s c) 0 true ∗ reached ER (cell d false s c) 0 ∗ dutyTok ER (cell d true s (nxt d c)) 0 true)
/-- What a device needs for the wait for the block of step s to arrive. -/
def receiver (d : Bool) (s : Fin 3) : sProp 𝕄 :=
  iprop(cred (tallyAt (cell d true s c) (2 + s.val) N) ∗ atPos ER (cell d true s c) 0 ∅ 0)
/-- What a device needs for the wait for the block sent at step s to have left. -/
def leaver (d : Bool) (s : Fin 3) : sProp 𝕄 :=
  iprop(cred (tallyAt (cell d false s c) 0 N) ∗ atPos ER (cell d false s c) 0 ∅ 0)
/-- A semaphore's one round is over. -/
abbrev over (d r : Bool) (s : Fin 3) : sProp 𝕄 := atPos ER (cell d r s c) (0 + 1) ∅ 0

/-- The credit that a send leaves for the wait for the block to have left. -/
abbrev gone (d : Bool) (s : Fin 3) : sProp 𝕄 := cred (tallyAt (cell d false s c) 0 N)
/-- A device's result, in the staging buffer. -/
abbrev out (Y : S2048x512.Idx → Elt F .f32) : sProp 𝕄 := owns (c : Thread nD τ) (Memref.whole cc0_stg1_0) fullShare Y
/-- The upper 1024 rows of the result. -/
abbrev upper : Rect S2048x512 := Rect.unit (s := S2048x512) ![0, 0] S1024x512.size inb_S2048x512_S1024x512_0_0
/-- The lower 1024 rows of the result. -/
abbrev lower : Rect S2048x512 := Rect.unit (s := S2048x512) ![1024, 0] S1024x512.size inb_S2048x512_S1024x512_1024_0

/-- The sum of the second block received in the other direction and the device's own. -/
abbrev sum2 : FVec F S1024x512 .bf16 := k0_pay6 (one (got false X 1 c)) (chunk (X c) (k0_off4 c 1#32) (k0_off4_inb c 1))

theorem fill_t0 : blk (k0_pay1 (first true X c)) = sent true X 0 c := by rw [pay1_eq, blk_one]; rfl
theorem fill_f0 : blk (k0_pay2 (first false X c)) = sent false X 0 c := by rw [pay2_eq, blk_one]; rfl
theorem fill_t1 : blk (k0_pay3 (one (got true X 0 c)) (mine true 0 X c)) = sent true X 1 c := by rw [pay3_eq, blk_one]; rfl
theorem fill_f1 : blk (k0_pay4 (one (got false X 0 c)) (mine false 0 X c)) = sent false X 1 c := by rw [pay4_eq, blk_one]; rfl
theorem fill_t2 : blk (k0_pay5 (one (got true X 1 c)) (mine true 1 X c)) = sent true X 2 c := by rw [pay5_eq, blk_one]; rfl
theorem fill_f2 : blk (k0_pay7 (sum2 X c)) = sent false X 2 c := by rw [pay67_eq, blk_one]; rfl
theorem half_t : k0_pay8 (one (got true X 2 c)) (mine true 2 X c) = half true X c := pay8_eq _ _
theorem half_f : k0_pay9 (one (got false X 2 c)) (mine false 2 X c) = half false X c := pay9_eq _ _

/-- The first part: the signals to both neighbours, the wait for both, the first block of one direction. -/
theorem run_part2 {v2 v5 v8 v20 v31 v34 : BitVec 32} {K : _ → sProp 𝕄} :
    iprop(ctx X κ ∗ debt c (due c 8)
        ∗ (dutyTok ER (barC (prv true c)) 0 true ∗ reached ER (barC (prv true c)) 0 ∗ (room true 0 c ∗ room true 1 c ∗ room true 2 c))
        ∗ (dutyTok ER (barC (prv false c)) 0 false ∗ reached ER (barC (prv false c)) 0 ∗ (room false 0 c ∗ room false 1 c ∗ room false 2 c))
        ∗ (cred (tallyAt (barC c) 1 2) ∗ atPos ER (barC c) 0 ∅ 0) ∗ xin X c ∗ anySlot true false 0 c)
      ⊢ iprop((∀ r, (debt c (due c 6) ∗ atPos ER (barC c) (0 + 1) ∅ 0
            ∗ (room true 0 (nxt true c) ∗ room true 1 (nxt true c) ∗ room true 2 (nxt true c))
            ∗ (room false 0 (nxt false c) ∗ room false 1 (nxt false c) ∗ room false 2 (nxt false c)) ∗ xin X c ∗ full X c true 0) -∗ K r)
          -∗ run c (app (k0_part2 (F := F)) c v2 v5 v8 v20 v31 (SemArray.scalar barrier0) v34) K) := by
  simp only [k0_part2_eq_skeleton]
  unfold k0_part2_skel
  simp only [semSignalWord, semWaitWord, Prog.lift, Prog.bind_op, Prog.bind_ret, Prog.pure_eq_ret, Prog.bind_assoc]
  iintro ⟨#HI, HO, ⟨Ht1, Hr1, Hp1⟩, ⟨Ht2, Hr2, Hp2⟩, ⟨Hc, Ha⟩, Hx, Hs⟩ Hk
  iapply (wp_signal_nb X κ c true (Fin.ext (dev1_val c)) (due c 7) rfl) $$ [HO Ht1 Hr1 Hp1]
  · iframe HI HO Ht1 Hr1 Hp1
  iintro HO
  iapply (wp_signal_nb X κ c false (Fin.ext (dev2_val c)) (due c 6) rfl) $$ [HO Ht2 Hr2 Hp2]
  · iframe HI HO Ht2 Hr2 Hp2
  iintro HO
  iapply (wp_wait_nb X κ c 6 (by decide)) $$ [HO Hc Ha]
  · iframe HI HO Hc Ha
  iintro ⟨HO, Ha, Hq1, Hq2⟩
  iapply (wp_load_x c (X c)) $$ Hx
  iintro Hx
  iapply (wp_load_any c true false 0) $$ Hs
  iintro Hs
  iapply (wp_store_slot c true false 0 (fill_t0 X c)) $$ Hs
  iintro Hs
  iapply (run_ret c)
  iapply Hk
  iframe HO Ha Hq1 Hq2 Hx Hs

/-- The first block of the other direction, and the first send. -/
theorem run_part3 {v2 v5 v31 v64 w : BitVec 32} {v65 : BitVec 1} {K : _ → sProp 𝕄} :
    iprop(ctx X κ ∗ debt c (due c 6) ∗ xin X c ∗ anySlot false false 0 c ∗ full X c true 0 ∗ sender c true 0)
      ⊢ iprop((∀ r, (debt c (due c 5) ∗ xin X c ∗ full X c false 0 ∗ gone c true 0) -∗ K r)
          -∗ run c (app (k0_part3 (F := F)) c v2 v5 v31 v64 w v65) K) := by
  simp only [k0_part3_eq_skeleton]
  unfold k0_part3_skel
  simp only [Prog.lift, Prog.bind_op, Prog.bind_ret, Prog.pure_eq_ret, Prog.bind_assoc]
  unfold sender
  iintro ⟨#HI, HO, Hx, Hanyf, Hfullt, Hsendt⟩ Hk
  iapply (wp_load_x c (X c)) $$ Hx
  iintro Hx
  iapply (wp_load_any c false false 0) $$ Hanyf
  iintro Hanyf
  iapply (wp_store_slot c false false 0 (fill_f0 X c)) $$ Hanyf
  iintro Hfullf
  icases Hsendt with ⟨Hr, Ht1, Hq, Ht2⟩
  iapply (wp_send_slot X κ c true 0 (Fin.ext (dev3_val c)) (due c 5) rfl) $$ [HO Hfullt Hr Ht1 Hq Ht2]
  · iframe HI HO Hfullt Hr Ht1 Hq Ht2
  iintro ⟨HO, Hgonet⟩
  iapply (run_ret c)
  iapply Hk
  iframe HO Hx Hfullf Hgonet

/-- The first send of the other direction. -/
theorem run_part4 {v5 v8 v20 v96 w : BitVec 32} {K : _ → sProp 𝕄} :
    iprop(ctx X κ ∗ debt c (due c 5) ∗ full X c false 0 ∗ sender c false 0)
      ⊢ iprop((∀ r, (debt c (due c 4) ∗ gone c false 0) -∗ K r)
          -∗ run c (app (k0_part4 (F := F)) c v5 v8 v20 v96 w) K) := by
  simp only [k0_part4_eq_skeleton]
  unfold k0_part4_skel
  simp only [Prog.lift, Prog.bind_op, Prog.bind_ret, Prog.pure_eq_ret, Prog.bind_assoc]
  unfold sender
  iintro ⟨#HI, HO, Hfullf, Hsendf⟩ Hk
  icases Hsendf with ⟨Hr, Ht1, Hq, Ht2⟩
  iapply (wp_send_slot X κ c false 0 (Fin.ext (dev4_val c)) (due c 4) rfl) $$ [HO Hfullf Hr Ht1 Hq Ht2]
  · iframe HI HO Hfullf Hr Ht1 Hq Ht2
  iintro ⟨HO, Hgonef⟩
  iapply (run_ret c)
  iapply Hk
  iframe HO Hgonef

/-- The first block received, and the second block to send. -/
theorem run_part5 {v2 v5 v20 v31 v122 v126 v127 : BitVec 32} {v132 : BitVec 1} {K : _ → sProp 𝕄} :
    iprop(ctx X κ ∗ debt c (due c 4) ∗ receiver c true 0 ∗ xin X c ∗ anySlot true false 1 c)
      ⊢ iprop((∀ r, (debt c (due c 4) ∗ over c true true 0 ∗ anySlot true true 0 c ∗ xin X c ∗ full X c true 1) -∗ K r)
          -∗ run c (app (k0_part5 (F := F)) c v2 v5 v20 v31 v122 v126 v127 v132) K) := by
  simp only [k0_part5_eq_skeleton]
  unfold k0_part5_skel
  simp only [Prog.lift, Prog.bind_op, Prog.bind_ret, Prog.pure_eq_ret, Prog.bind_assoc]
  unfold receiver
  iintro ⟨#HI, HO, Hrecvt, Hx, Hanyt⟩ Hk
  icases Hrecvt with ⟨Hc, Ha⟩
  iapply (wp_wait_recv X κ c true 0 4 (by decide) (credit_eq true true 0)) $$ [HO Hc Ha]
  · iframe HI HO Hc Ha
  iintro ⟨HO, Hovert, Harrt⟩
  iapply (wp_load_slot c true true 0 (got true X 0 c)) $$ Harrt
  iintro Harrt
  ihave Harrt := (any_of c true true 0 _) $$ Harrt
  iapply (wp_load_x c (X c)) $$ Hx
  iintro Hx
  iapply (wp_load_any c true false 1) $$ Hanyt
  iintro Hanyt
  iapply (wp_store_slot c true false 1 (fill_t1 X c)) $$ Hanyt
  iintro Hfullt
  iapply (run_ret c)
  iapply Hk
  iframe HO Hovert Harrt Hx Hfullt

/-- The same of the other direction; the first block has left. -/
theorem run_part6 {w : BitVec 32} {K : _ → sProp 𝕄} :
    iprop(ctx X κ ∗ debt c (due c 4) ∗ receiver c false 0 ∗ xin X c ∗ anySlot false false 1 c ∗ leaver c true 0)
      ⊢ iprop((∀ r, (debt c (due c 4) ∗ over c false true 0 ∗ anySlot false true 0 c ∗ xin X c ∗ full X c false 1 ∗ over c true false 0 ∗ anySlot true false 0 c) -∗ K r)
          -∗ run c (app (k0_part6 (F := F)) c w) K) := by
  simp only [k0_part6_eq_skeleton]
  unfold k0_part6_skel
  simp only [Prog.lift, Prog.bind_op, Prog.bind_ret, Prog.pure_eq_ret, Prog.bind_assoc]
  unfold receiver leaver
  iintro ⟨#HI, HO, Hrecvf, Hx, Hanyf, Hleavet⟩ Hk
  icases Hrecvf with ⟨Hc, Ha⟩
  iapply (wp_wait_recv X κ c false 0 4 (by decide) (credit_eq false true 0)) $$ [HO Hc Ha]
  · iframe HI HO Hc Ha
  iintro ⟨HO, Hoverf, Harrf⟩
  iapply (wp_load_slot c false true 0 (got false X 0 c)) $$ Harrf
  iintro Harrf
  ihave Harrf := (any_of c false true 0 _) $$ Harrf
  iapply (wp_load_x c (X c)) $$ Hx
  iintro Hx
  iapply (wp_load_any c false false 1) $$ Hanyf
  iintro Hanyf
  iapply (wp_store_slot c false false 1 (fill_f1 X c)) $$ Hanyf
  iintro Hfullf
  icases Hleavet with ⟨Hc, Ha⟩
  iapply (wp_wait_sent X κ c true 0 4 (by decide) (credit_eq true false 0)) $$ [HO Hc Ha]
  · iframe HI HO Hc Ha
  iintro ⟨HO, Hleftt, Hfreet⟩
  iapply (run_ret c)
  iapply Hk
  iframe HO Hoverf Harrf Hx Hfullf Hleftt Hfreet

/-- The first block of the other direction has left; the second sends. -/
theorem run_part7 {v2 v5 v8 v20 v31 : BitVec 32} {K : _ → sProp 𝕄} :
    iprop(ctx X κ ∗ debt c (due c 4) ∗ leaver c false 0 ∗ full X c true 1 ∗ sender c true 1 ∗ full X c false 1 ∗ sender c false 1)
      ⊢ iprop((∀ r, (debt c (due c 2) ∗ over c false false 0 ∗ anySlot false false 0 c ∗ gone c true 1 ∗ gone c false 1) -∗ K r)
          -∗ run c (app (k0_part7 (F := F)) c v2 v5 v8 v20 v31) K) := by
  simp only [k0_part7_eq_skeleton]
  unfold k0_part7_skel
  simp only [Prog.lift, Prog.bind_op, Prog.bind_ret, Prog.pure_eq_ret, Prog.bind_assoc]
  unfold sender leaver
  iintro ⟨#HI, HO, Hleavef, Hfullt, Hsendt, Hfullf, Hsendf⟩ Hk
  icases Hleavef with ⟨Hc, Ha⟩
  iapply (wp_wait_sent X κ c false 0 4 (by decide) (credit_eq false false 0)) $$ [HO Hc Ha]
  · iframe HI HO Hc Ha
  iintro ⟨HO, Hleftf, Hfreef⟩
  icases Hsendt with ⟨Hr, Ht1, Hq, Ht2⟩
  iapply (wp_send_slot X κ c true 1 (Fin.ext (dev5_val c)) (due c 3) rfl) $$ [HO Hfullt Hr Ht1 Hq Ht2]
  · iframe HI HO Hfullt Hr Ht1 Hq Ht2
  iintro ⟨HO, Hgonet⟩
  icases Hsendf with ⟨Hr, Ht1, Hq, Ht2⟩
  iapply (wp_send_slot X κ c false 1 (Fin.ext (dev6_val c)) (due c 2) rfl) $$ [HO Hfullf Hr Ht1 Hq Ht2]
  · iframe HI HO Hfullf Hr Ht1 Hq Ht2
  iintro ⟨HO, Hgonef⟩
  iapply (run_ret c)
  iapply Hk
  iframe HO Hleftf Hfreef Hgonet Hgonef

/-- The second blocks received, and the third block to send in one direction. -/
theorem run_part9 {v2 v5 v20 v231 v243 : BitVec 32} {K : _ → sProp 𝕄} :
    iprop(ctx X κ ∗ debt c (due c 2) ∗ receiver c true 1 ∗ receiver c false 1 ∗ xin X c ∗ anySlot true false 2 c)
      ⊢ iprop(((debt c (due c 2) ∗ over c true true 1 ∗ anySlot true true 1 c ∗ over c false true 1 ∗ anySlot false true 1 c ∗ xin X c ∗ full X c true 2) -∗ K (sum2 X c))
          -∗ run c (app (k0_part9 (F := F)) c v2 v5 v20 v231 v243) K) := by
  simp only [k0_part9_eq_skeleton]
  unfold k0_part9_skel
  simp only [Prog.lift, Prog.bind_op, Prog.bind_ret, Prog.pure_eq_ret, Prog.bind_assoc]
  unfold receiver
  iintro ⟨#HI, HO, Hrecvt, Hrecvf, Hx, Hanyt⟩ Hk
  icases Hrecvt with ⟨Hc, Ha⟩
  iapply (wp_wait_recv X κ c true 1 2 (by decide) (credit_eq true true 1)) $$ [HO Hc Ha]
  · iframe HI HO Hc Ha
  iintro ⟨HO, Hovert, Harrt⟩
  iapply (wp_load_slot c true true 1 (got true X 1 c)) $$ Harrt
  iintro Harrt
  ihave Harrt := (any_of c true true 1 _) $$ Harrt
  iapply (wp_load_x c (X c)) $$ Hx
  iintro Hx
  iapply (wp_load_any c true false 2) $$ Hanyt
  iintro Hanyt
  iapply (wp_store_slot c true false 2 (fill_t2 X c)) $$ Hanyt
  iintro Hfullt
  icases Hrecvf with ⟨Hc, Ha⟩
  iapply (wp_wait_recv X κ c false 1 2 (by decide) (credit_eq false true 1)) $$ [HO Hc Ha]
  · iframe HI HO Hc Ha
  iintro ⟨HO, Hoverf, Harrf⟩
  iapply (wp_load_slot c false true 1 (got false X 1 c)) $$ Harrf
  iintro Harrf
  ihave Harrf := (any_of c false true 1 _) $$ Harrf
  iapply (wp_load_x c (X c)) $$ Hx
  iintro Hx
  iapply (run_ret c)
  iapply Hk
  iframe HO Hovert Harrt Hoverf Harrf Hx Hfullt

/-- The third block to send in the other direction; the second blocks have left. -/
theorem run_part10 {v2 v5 v31 : BitVec 32} {K : _ → sProp 𝕄} :
    iprop(ctx X κ ∗ debt c (due c 2) ∗ anySlot false false 2 c ∗ leaver c true 1 ∗ leaver c false 1)
      ⊢ iprop((∀ r, (debt c (due c 2) ∗ full X c false 2 ∗ over c true false 1 ∗ anySlot true false 1 c ∗ over c false false 1 ∗ anySlot false false 1 c) -∗ K r)
          -∗ run c (app (k0_part10 (F := F)) v2 v5 v31 (sum2 X c)) K) := by
  simp only [k0_part10_eq_skeleton]
  unfold k0_part10_skel
  simp only [Prog.lift, Prog.bind_op, Prog.bind_ret, Prog.pure_eq_ret, Prog.bind_assoc]
  unfold leaver
  iintro ⟨#HI, HO, Hanyf, Hleavet, Hleavef⟩ Hk
  iapply (wp_load_any c false false 2) $$ Hanyf
  iintro Hanyf
  iapply (wp_store_slot c false false 2 (fill_f2 X c)) $$ Hanyf
  iintro Hfullf
  icases Hleavet with ⟨Hc, Ha⟩
  iapply (wp_wait_sent X κ c true 1 2 (by decide) (credit_eq true false 1)) $$ [HO Hc Ha]
  · iframe HI HO Hc Ha
  iintro ⟨HO, Hleftt, Hfreet⟩
  icases Hleavef with ⟨Hc, Ha⟩
  iapply (wp_wait_sent X κ c false 1 2 (by decide) (credit_eq false false 1)) $$ [HO Hc Ha]
  · iframe HI HO Hc Ha
  iintro ⟨HO, Hleftf, Hfreef⟩
  iapply (run_ret c)
  iapply Hk
  iframe HO Hfullf Hleftt Hfreet Hleftf Hfreef

/-- The third sends. -/
theorem run_part11 {v2 v5 v8 v20 : BitVec 32} {K : _ → sProp 𝕄} :
    iprop(ctx X κ ∗ debt c (due c 2) ∗ full X c true 2 ∗ sender c true 2 ∗ full X c false 2 ∗ sender c false 2)
      ⊢ iprop((∀ r, (debt c (due c 0) ∗ gone c true 2 ∗ gone c false 2) -∗ K r)
          -∗ run c (app (k0_part11 (F := F)) c v2 v5 v8 v20) K) := by
  simp only [k0_part11_eq_skeleton]
  unfold k0_part11_skel
  simp only [Prog.lift, Prog.bind_op, Prog.bind_ret, Prog.pure_eq_ret, Prog.bind_assoc]
  unfold sender
  iintro ⟨#HI, HO, Hfullt, Hsendt, Hfullf, Hsendf⟩ Hk
  icases Hsendt with ⟨Hr, Ht1, Hq, Ht2⟩
  iapply (wp_send_slot X κ c true 2 (Fin.ext (dev7_val c)) (due c 1) rfl) $$ [HO Hfullt Hr Ht1 Hq Ht2]
  · iframe HI HO Hfullt Hr Ht1 Hq Ht2
  iintro ⟨HO, Hgonet⟩
  icases Hsendf with ⟨Hr, Ht1, Hq, Ht2⟩
  iapply (wp_send_slot X κ c false 2 (Fin.ext (dev8_val c)) (due c 0) rfl) $$ [HO Hfullf Hr Ht1 Hq Ht2]
  · iframe HI HO Hfullf Hr Ht1 Hq Ht2
  iintro ⟨HO, Hgonef⟩
  iapply (run_ret c)
  iapply Hk
  iframe HO Hgonet Hgonef

/-- The third block received in one direction, and the upper half of the result. -/
theorem run_part12 (Y : S2048x512.Idx → Elt F .f32) {v2 v5 v31 v340 v342 w w' : BitVec 32} {K : _ → sProp 𝕄} :
    iprop(ctx X κ ∗ debt c (due c 0) ∗ receiver c true 2 ∗ xin X c ∗ out c Y)
      ⊢ iprop((∀ r, (debt c (due c 0) ∗ over c true true 2 ∗ anySlot true true 2 c ∗ xin X c ∗ out c (put upper (half true X c) Y)) -∗ K r)
          -∗ run c (app (k0_part12 (F := F)) c v2 v5 v31 v340 v342 w w') K) := by
  simp only [k0_part12_eq_skeleton]
  unfold k0_part12_skel
  simp only [Prog.lift, Prog.bind_op, Prog.bind_ret, Prog.pure_eq_ret, Prog.bind_assoc]
  unfold receiver
  iintro ⟨#HI, HO, Hrecvt, Hx, Hy⟩ Hk
  icases Hrecvt with ⟨Hc, Ha⟩
  iapply (wp_wait_recv X κ c true 2 0 (by decide) (credit_eq true true 2)) $$ [HO Hc Ha]
  · iframe HI HO Hc Ha
  iintro ⟨HO, Hovert, Harrt⟩
  iapply (wp_load_slot c true true 2 (got true X 2 c)) $$ Harrt
  iintro Harrt
  ihave Harrt := (any_of c true true 2 _) $$ Harrt
  iapply (wp_load_x c (X c)) $$ Hx
  iintro Hx
  iapply (wp_load_out c Y) $$ Hy
  iintro Hy
  iapply (wp_store_out c Y _ (half_t X c)) $$ Hy
  iintro Hy
  iapply (run_ret c)
  iapply Hk
  iframe HO Hovert Harrt Hx Hy

/-- The third block received in the other direction, and the lower half of the result; one of the third blocks has left. -/
theorem run_part13 (Y : S2048x512.Idx → Elt F .f32) {v2 v5 v20 w : BitVec 32} {K : _ → sProp 𝕄} :
    iprop(ctx X κ ∗ debt c (due c 0) ∗ receiver c false 2 ∗ xin X c ∗ leaver c true 2 ∗ out c Y)
      ⊢ iprop((∀ r, (debt c (due c 0) ∗ over c false true 2 ∗ anySlot false true 2 c ∗ xin X c ∗ over c true false 2 ∗ anySlot true false 2 c ∗ out c (put lower (half false X c) Y)) -∗ K r)
          -∗ run c (app (k0_part13 (F := F)) c v2 v5 v20 w) K) := by
  simp only [k0_part13_eq_skeleton]
  unfold k0_part13_skel
  simp only [Prog.lift, Prog.bind_op, Prog.bind_ret, Prog.pure_eq_ret, Prog.bind_assoc]
  unfold receiver leaver
  iintro ⟨#HI, HO, Hrecvf, Hx, Hleavet, Hy⟩ Hk
  icases Hrecvf with ⟨Hc, Ha⟩
  iapply (wp_wait_recv X κ c false 2 0 (by decide) (credit_eq false true 2)) $$ [HO Hc Ha]
  · iframe HI HO Hc Ha
  iintro ⟨HO, Hoverf, Harrf⟩
  iapply (wp_load_slot c false true 2 (got false X 2 c)) $$ Harrf
  iintro Harrf
  ihave Harrf := (any_of c false true 2 _) $$ Harrf
  iapply (wp_load_x c (X c)) $$ Hx
  iintro Hx
  iapply (wp_load_out c Y) $$ Hy
  iintro Hy
  iapply (wp_store_out c Y _ (half_f X c)) $$ Hy
  iintro Hy
  icases Hleavet with ⟨Hc, Ha⟩
  iapply (wp_wait_sent X κ c true 2 0 (by decide) (credit_eq true false 2)) $$ [HO Hc Ha]
  · iframe HI HO Hc Ha
  iintro ⟨HO, Hleftt, Hfreet⟩
  iapply (run_ret c)
  iapply Hk
  iframe HO Hoverf Harrf Hx Hleftt Hfreet Hy

end Cert.Ring
end
-- ==== Proof.Whole.lean ====
/-
  The kernel's whole body on one device, from its parts: from the resources of the launch to a result that is the sum of what arrived and the device's own blocks.
-/
module

public import proofs.«01_k».proof.Proof.Body

@[expose] public section

set_option maxRecDepth 65536

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (X : Dev nD → S2048x2048.Idx → Elt F .bf16) (κ : GSem nD τ sig → ℕ) (c : Dev nD)

/-- A program that asks for its device goes on with that device. -/
theorem run_device {α : Type} {Q : α → sProp 𝕄} {k : Dev nD → Prog (TpuEff nD τ sig (Elt F) Λ₀ .tc) α} :
    run (F := F) c (k c) Q ⊢ run c (.op .deviceId k) Q := by
  unfold run; rw [wp_deviceId]

/-- The part before the first signal only computes words, and names the device and the barrier's semaphore. -/
theorem run_part1 {K : _ → sProp 𝕄} :
    iprop(∀ v2 v5 v8 v20 v31 v34, K ⟨c, v2, v5, v8, v20, v31, SemArray.scalar barrier0, v34⟩) ⊢ run (F := F) c (app (k0_part1 (F := F))) K := by
  simp only [k0_part1_eq_skeleton]
  unfold k0_part1_skel
  simp only [Prog.lift, Prog.bind_op, Prog.bind_ret, Prog.pure_eq_ret, Prog.bind_assoc]
  iintro H
  iapply (run_device c)
  iapply (run_ret c)
  istop
  exact (forall_elim _).trans <| (forall_elim _).trans <| (forall_elim _).trans <| (forall_elim _).trans <| (forall_elim _).trans (forall_elim _)

/-- One of the parts only computes words. -/
theorem run_part8 {v2 v5 v8 v31 v220 : BitVec 32} {K : _ → sProp 𝕄} :
    iprop(∀ r, K r) ⊢ run (F := F) c (app (k0_part8 (F := F)) v2 v5 v8 v31 v220) K := by
  simp only [k0_part8_eq_skeleton]
  unfold k0_part8_skel
  simp only [Prog.lift, Prog.bind_op, Prog.bind_ret, Prog.pure_eq_ret, Prog.bind_assoc]
  iintro H
  iapply (run_ret c)
  iapply H

/-- What a device holds for one step of one direction when it starts: both slots, the room it can offer, the tokens of both ends of its send and its positions. -/
def station (d : Bool) (s : Fin 3) : sProp 𝕄 :=
  iprop(room d s c ∗ (dutyTok ER (cell d false s c) 0 true ∗ reached ER (cell d false s c) 0 ∗ dutyTok ER (cell d true s (nxt d c)) 0 true)
    ∗ receiver c d s ∗ atPos ER (cell d false s c) 0 ∅ 0 ∗ anySlot d false s c)

/-- What it holds for that step when it ends: both slots, and both semaphores' rounds over. -/
def closing (d : Bool) (s : Fin 3) : sProp 𝕄 :=
  iprop((over c d false s ∗ over c d true s) ∗ anySlot d false s c ∗ anySlot d true s c)

/-- What it holds of the barrier when it starts. -/
def gate : sProp 𝕄 :=
  iprop((dutyTok ER (barC (prv true c)) 0 true ∗ reached ER (barC (prv true c)) 0)
    ∗ (dutyTok ER (barC (prv false c)) 0 false ∗ reached ER (barC (prv false c)) 0)
    ∗ cred (tallyAt (barC c) 1 2) ∗ atPos ER (barC c) 0 ∅ 0)

/-- The result's buffer after both halves are stored. -/
abbrev stored (Y : S2048x512.Idx → Elt F .f32) : S2048x512.Idx → Elt F .f32 :=
  put lower (half false X c) (put upper (half true X c) Y)

theorem sender_intro (d : Bool) (s : Fin 3) :
    iprop(room d s (nxt d c) ∗ (dutyTok ER (cell d false s c) 0 true ∗ reached ER (cell d false s c) 0 ∗ dutyTok ER (cell d true s (nxt d c)) 0 true))
      ⊢ sender (F := F) c d s := by unfold sender; exact Entails.rfl
theorem leaver_intro (d : Bool) (s : Fin 3) :
    iprop(gone c d s ∗ atPos ER (cell d false s c) 0 ∅ 0) ⊢ leaver (F := F) c d s := by unfold leaver; exact Entails.rfl
theorem closing_intro (d : Bool) (s : Fin 3) :
    iprop((over c d false s ∗ over c d true s) ∗ anySlot d false s c ∗ anySlot d true s c) ⊢ closing (F := F) c d s := by unfold closing; exact Entails.rfl

/-- The body. -/
theorem run_body (Y : S2048x512.Idx → Elt F .f32) {K : PUnit → sProp 𝕄} :
    iprop(ctx X κ ∗ debt c (due c 8) ∗ xin X c ∗ out c Y ∗ gate c
        ∗ (station c true 0 ∗ station c true 1 ∗ station c true 2) ∗ (station c false 0 ∗ station c false 1 ∗ station c false 2))
      ⊢ iprop(((debt c (due c 0) ∗ xin X c ∗ out c (stored X c Y) ∗ atPos ER (barC c) (0 + 1) ∅ 0
            ∗ (closing c true 0 ∗ closing c true 1 ∗ closing c true 2) ∗ (closing c false 0 ∗ closing c false 1 ∗ closing c false 2)) -∗ K ⟨⟩)
          -∗ run (F := F) c (app (cc0_body (F := F))) K) := by
  simp only [cc0_body_eq_skeleton]
  unfold cc0_body_skel
  unfold station gate
  iintro ⟨#HI, HO, Hx, Hy, ⟨⟨Hb1, Hb2⟩, ⟨Hb3, Hb4⟩, Hb5⟩, ⟨⟨Rt0, Tt0, Vt0, Pt0, At0⟩, ⟨Rt1, Tt1, Vt1, Pt1, At1⟩, ⟨Rt2, Tt2, Vt2, Pt2, At2⟩⟩,
    ⟨⟨Rf0, Tf0, Vf0, Pf0, Af0⟩, ⟨Rf1, Tf1, Vf1, Pf1, Af1⟩, ⟨Rf2, Tf2, Vf2, Pf2, Af2⟩⟩⟩ Hk
  iapply (run_bind c)
  iapply (run_part1 c)
  iintro %v2 %v5 %v8 %v20 %v31 %v34
  dsimp only
  -- The handshake, and the first block of one direction.
  iapply (run_bind c)
  iapply (run_part2 X κ c) $$ [HO Hb1 Hb2 Hb3 Hb4 Hb5 Rt0 Rt1 Rt2 Rf0 Rf1 Rf2 Hx At0]
  · iframe HI HO Hb1 Hb2 Hb3 Hb4 Hb5 Rt0 Rt1 Rt2 Rf0 Rf1 Rf2 Hx At0
  iintro %r ⟨HO, Hbar, ⟨Rt0, Rt1, Rt2⟩, ⟨Rf0, Rf1, Rf2⟩, Hx, Ft0⟩
  obtain ⟨v64, w, v65⟩ := r
  dsimp only
  ihave Tt0 := (sender_intro c true 0) $$ [Rt0 Tt0]
  · iframe Rt0 Tt0
  ihave Tt1 := (sender_intro c true 1) $$ [Rt1 Tt1]
  · iframe Rt1 Tt1
  ihave Tt2 := (sender_intro c true 2) $$ [Rt2 Tt2]
  · iframe Rt2 Tt2
  ihave Tf0 := (sender_intro c false 0) $$ [Rf0 Tf0]
  · iframe Rf0 Tf0
  ihave Tf1 := (sender_intro c false 1) $$ [Rf1 Tf1]
  · iframe Rf1 Tf1
  ihave Tf2 := (sender_intro c false 2) $$ [Rf2 Tf2]
  · iframe Rf2 Tf2
  -- Step 0.
  iapply (run_bind c)
  iapply (run_part3 X κ c) $$ [HO Hx Af0 Ft0 Tt0]
  · iframe HI HO Hx Af0 Ft0 Tt0
  iintro %r ⟨HO, Hx, Ff0, Gt0⟩
  obtain ⟨v96, w0⟩ := r
  dsimp only
  iapply (run_bind c)
  iapply (run_part4 X κ c) $$ [HO Ff0 Tf0]
  · iframe HI HO Ff0 Tf0
  iintro %r ⟨HO, Gf0⟩
  obtain ⟨v122, v126, v127, v132⟩ := r
  dsimp only
  iapply (run_bind c)
  iapply (run_part5 X κ c) $$ [HO Vt0 Hx At1]
  · iframe HI HO Vt0 Hx At1
  iintro %r ⟨HO, Ot0, Ct0, Hx, Ft1⟩
  iapply (run_bind c)
  ihave Lt0 := (leaver_intro c true 0) $$ [Gt0 Pt0]
  · iframe Gt0 Pt0
  iapply (run_part6 X κ c) $$ [HO Vf0 Hx Af1 Lt0]
  · iframe HI HO Vf0 Hx Af1 Lt0
  iintro %r2 ⟨HO, Of0, Cf0, Hx, Ff1, Et0, Dt0⟩
  iapply (run_bind c)
  ihave Lf0 := (leaver_intro c false 0) $$ [Gf0 Pf0]
  · iframe Gf0 Pf0
  -- Step 1.
  iapply (run_part7 X κ c) $$ [HO Lf0 Ft1 Tt1 Ff1 Tf1]
  · iframe HI HO Lf0 Ft1 Tt1 Ff1 Tf1
  iintro %r3 ⟨HO, Ef0, Df0, Gt1, Gf1⟩
  iapply (run_bind c)
  iapply (run_part8 c)
  iintro %r4
  obtain ⟨v231, v243⟩ := r4
  dsimp only
  iapply (run_bind c)
  iapply (run_part9 X κ c) $$ [HO Vt1 Vf1 Hx At2]
  · iframe HI HO Vt1 Vf1 Hx At2
  iintro ⟨HO, Ot1, Ct1, Of1, Cf1, Hx, Ft2⟩
  iapply (run_bind c)
  ihave Lt1 := (leaver_intro c true 1) $$ [Gt1 Pt1]
  · iframe Gt1 Pt1
  ihave Lf1 := (leaver_intro c false 1) $$ [Gf1 Pf1]
  · iframe Gf1 Pf1
  iapply (run_part10 X κ c) $$ [HO Af2 Lt1 Lf1]
  · iframe HI HO Af2 Lt1 Lf1
  iintro %r5 ⟨HO, Ff2, Et1, Dt1, Ef1, Df1⟩
  -- Step 2.
  iapply (run_bind c)
  iapply (run_part11 X κ c) $$ [HO Ft2 Tt2 Ff2 Tf2]
  · iframe HI HO Ft2 Tt2 Ff2 Tf2
  iintro %r6 ⟨HO, Gt2, Gf2⟩
  obtain ⟨v340, v342, w4, w5⟩ := r6
  dsimp only
  iapply (run_bind c)
  iapply (run_part12 X κ c Y) $$ [HO Vt2 Hx Hy]
  · iframe HI HO Vt2 Hx Hy
  iintro %r7 ⟨HO, Ot2, Ct2, Hx, Hy⟩
  iapply (run_bind c)
  ihave Lt2 := (leaver_intro c true 2) $$ [Gt2 Pt2]
  · iframe Gt2 Pt2
  iapply (run_part13 X κ c _) $$ [HO Vf2 Hx Lt2 Hy]
  · iframe HI HO Vf2 Hx Lt2 Hy
  iintro %r8 ⟨HO, Of2, Cf2, Hx, Et2, Dt2, Hy⟩
  simp only [Prog.lift, Prog.bind_op, Prog.bind_ret, Prog.pure_eq_ret, Prog.bind_assoc]
  iapply (wp_wait_sent X κ c false 2 0 (by decide) (credit_eq false false 2)) $$ [HO Gf2 Pf2]
  · iframe HI HO Gf2 Pf2
  iintro ⟨HO, Ef2, Df2⟩
  iapply (run_ret c)
  iapply Hk
  unfold closing
  iframe HO Hx Hy Hbar Et0 Ot0 Dt0 Ct0 Et1 Ot1 Dt1 Ct1 Et2 Ot2 Dt2 Ct2 Ef0 Of0 Df0 Cf0 Ef1 Of1 Df1 Cf1 Ef2 Of2 Df2 Cf2

end Cert.Ring
end
-- ==== Proof.Slots.lean ====
/-
  The buffers of the copies, whole and slot by slot; the semaphores of the copies at the end; the result's buffer.
-/
module

public import proofs.«01_k».proof.Proof.Whole

@[expose] public section

set_option maxRecDepth 65536

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

/-! ## The result -/

/-- What the two stores leave in the result's buffer does not depend on what it held. -/
theorem stored_eq (X : Dev nD → S2048x2048.Idx → Elt F .bf16) (c : Dev nD) (Y : S2048x512.Idx → Elt F .f32) : stored X c Y = result X c := by
  funext i
  refine View.read_writes_apply_of_pieces (Val := Elt F) (v := View.whole cc0_stg1_0) (f := Y) (result X c)
    [⟨lower, half false X c⟩, ⟨upper, half true X c⟩] ?_ i ?_
  · intro p hp x
    simp only [List.mem_cons, List.not_mem_nil, or_false] at hp
    rcases hp with rfl | rfl
    · have h0 : ((lower.emb x) 0).val = 1024 + (x 0).val := by show 1024 + 1 * (x 0).val = _; omega
      have hn : ¬((lower.emb x) 0).val < 1024 := by omega
      show half false X c x = result X c (lower.emb x)
      unfold result
      rw [dif_neg hn]
      refine congrArg _ (funext fun a => ?_)
      match a with
      | 0 => exact Fin.ext (by show (x 0).val = ((lower.emb x) 0).val - 1024; omega)
      | 1 => exact Fin.ext (by show (x 1).val = 0 + 1 * (x 1).val; omega)
    · have h0 : ((upper.emb x) 0).val = (x 0).val := by show 0 + 1 * (x 0).val = _; omega
      have hx : (x 0).val < 1024 := (x 0).isLt
      have hn : ((upper.emb x) 0).val < 1024 := by omega
      show half true X c x = result X c (upper.emb x)
      unfold result
      rw [dif_pos hn]
      refine congrArg _ (funext fun a => ?_)
      match a with
      | 0 => exact Fin.ext (by show (x 0).val = ((upper.emb x) 0).val; omega)
      | 1 => exact Fin.ext (by show (x 1).val = 0 + 1 * (x 1).val; omega)
  · have h0 : (i 0).val < 2048 := (i 0).isLt
    have h1 : (i 1).val < 512 := (i 1).isLt
    by_cases h : (i 0).val < 1024
    · refine ⟨⟨upper, half true X c⟩, by simp, (Rect.mem_set_unit (inb := inb_S2048x512_S1024x512_0_0)).mpr fun a => ?_⟩
      match a with
      | 0 => exact ⟨Nat.zero_le _, by show (i 0).val < 0 + 1024; omega⟩
      | 1 => exact ⟨Nat.zero_le _, by show (i 1).val < 0 + 512; omega⟩
    · refine ⟨⟨lower, half false X c⟩, by simp, (Rect.mem_set_unit (inb := inb_S2048x512_S1024x512_1024_0)).mpr fun a => ?_⟩
      match a with
      | 0 => exact ⟨by show 1024 ≤ (i 0).val; omega, by show (i 0).val < 1024 + 1024; omega⟩
      | 1 => exact ⟨Nat.zero_le _, by show (i 1).val < 0 + 512; omega⟩

/-! ## The buffers of the copies -/

/-- A buffer of three slots on a device, at some contents. -/
def store (d r : Bool) (c : Dev nD) : sProp 𝕄 :=
  iprop(∃ f : Buf (Elt F) ((c : Thread nD τ).loc (bufRef d r)), ((c : Thread nD τ).loc (bufRef d r)) ↦{fullShare} f)

/-- The elements of a slot among those of its buffer. -/
def elems (c : Dev nD) (s : Fin 3) : (d r : Bool) → Finset (Idx ((c : Thread nD τ).loc (bufRef d r)))
  | true, true | true, false | false, true | false, false => (slotR s).set

theorem elems_disjoint (c : Dev nD) (s t : Fin 3) (h : s ≠ t) : ∀ d r : Bool, Disjoint (elems c s d r) (elems c t d r)
  | true, true | true, false | false, true | false, false => slotR_disjoint s t h

theorem elems_cover (c : Dev nD) : ∀ d r : Bool, (Finset.univ.biUnion fun s : Fin 3 => elems c s d r) = Finset.univ
  | true, true | true, false | false, true | false, false => slotR_cover

/-- A slot's buffer at some contents, its elements only. -/
def piece (d r : Bool) (s : Fin 3) (c : Dev nD) : sProp 𝕄 :=
  iprop(∃ f : Buf (Elt F) ((c : Thread nD τ).loc (bufRef d r)), ((c : Thread nD τ).loc (bufRef d r)) ↦[elems c s d r]{fullShare} f)

/-- A slot of a whole buffer, at some contents, is its elements at some contents. -/
theorem slot_piece (B : Memref sig .tc .vmem S3x1024x512 .bf16) (s : Fin 3) (c : Dev nD) {S : Finset B.view.ty.Idx} (h : (slot B s).view.set = S) :
    (iprop(∃ f : B.view.ty.Contents (Elt F), B.view.loc (c : Thread nD τ) ↦[S]{fullShare} f) : sProp 𝕄)
      = iprop(∃ Y, owns (c : Thread nD τ) (slot B s) fullShare Y) := by
  subst h
  have h₁ : (iprop(∃ f : B.view.ty.Contents (Elt F), B.view.loc (c : Thread nD τ) ↦[(slot B s).view.set]{fullShare} f) : sProp 𝕄)
      ⊢ iprop(∃ Y, owns (c : Thread nD τ) (slot B s) fullShare Y) := by
    iintro ⟨%f, H⟩
    iexists _
    iapply (owns_intro (c : Thread nD τ) (slot B s) fullShare f)
    iexact H
  have h₂ : (iprop(∃ Y, owns (c : Thread nD τ) (slot B s) fullShare Y) : sProp 𝕄)
      ⊢ iprop(∃ f : B.view.ty.Contents (Elt F), B.view.loc (c : Thread nD τ) ↦[(slot B s).view.set]{fullShare} f) := by
    unfold owns
    iintro ⟨%Y, %f, -, H⟩
    iexists f
    iexact H
  exact BI.equiv_iff.mp ⟨h₁, h₂⟩

theorem piece_eq : ∀ (d r : Bool) (s : Fin 3) (c : Dev nD), piece (F := F) d r s c = anySlot d r s c
  | true, true, s, c => slot_piece (buf true true) s c ((slot_set true true s).trans (View.set_slice_whole _ _))
  | true, false, s, c => slot_piece (buf true false) s c ((slot_set true false s).trans (View.set_slice_whole _ _))
  | false, true, s, c => slot_piece (buf false true) s c ((slot_set false true s).trans (View.set_slice_whole _ _))
  | false, false, s, c => slot_piece (buf false false) s c ((slot_set false false s).trans (View.set_slice_whole _ _))

theorem bigSep_slots {M : Type} [URA M] (Φ : Fin 3 → sProp M) : bigSep Finset.univ Φ = iprop(Φ 0 ∗ Φ 1 ∗ Φ 2) :=
  bigSep_univ_eq_bigSepL [0, 1, 2] (by decide) (by decide) Φ

theorem piece_intro (d r : Bool) (s : Fin 3) (c : Dev nD) (f : Buf (Elt F) ((c : Thread nD τ).loc (bufRef d r))) :
    (((c : Thread nD τ).loc (bufRef d r)) ↦[elems c s d r]{fullShare} f : sProp 𝕄) ⊢ anySlot d r s c := by
  rw [← piece_eq]
  unfold piece
  iintro H; iexists f; iexact H

/-- A buffer is its three slots. -/
theorem store_split (d r : Bool) (c : Dev nD) : store (F := F) d r c ⊢ iprop(anySlot d r 0 c ∗ anySlot d r 1 c ∗ anySlot d r 2 c) := by
  rw [← bigSep_slots (fun s => anySlot (F := F) d r s c)]
  unfold store
  refine exists_elim fun f => ?_
  rw [Ring.pointsTo_blocks (fun s => elems c s d r) (fun s t h => elems_disjoint c s t h d r) (elems_cover c d r)]
  exact bigSep_mono fun s _ => piece_intro d r s c f

/-- The three slots are the buffer. -/
theorem store_join (d r : Bool) (c : Dev nD) : iprop(anySlot d r 0 c ∗ anySlot d r 1 c ∗ anySlot d r 2 c) ⊢ store (F := F) d r c := by
  have h (f : Buf (Elt F) ((c : Thread nD τ).loc (bufRef d r))) : iprop(anySlot d r 0 c ∗ anySlot d r 1 c ∗ anySlot d r 2 c) ⊢ store (F := F) d r c := by
    rw [← bigSep_slots (fun s => anySlot (F := F) d r s c)]
    simp only [← piece_eq]
    exact Ring.pointsTo_blocks_join_exists (fun s => elems c s d r) (fun s t h => elems_disjoint c s t h d r) (elems_cover c d r) f
  have h0 : anySlot (F := F) d r 0 c ⊢ iprop(∃ f : Buf (Elt F) ((c : Thread nD τ).loc (bufRef d r)), ((c : Thread nD τ).loc (bufRef d r)) ↦[elems c 0 d r]{fullShare} f) := by
    rw [← piece_eq]; exact Entails.rfl
  iintro ⟨H0, H1, H2⟩
  ihave H0 := h0 $$ H0
  icases H0 with ⟨%f, H0⟩
  iapply (h f)
  isplitl [H0]
  · rw [← piece_eq]; unfold piece; iexists f; iexact H0
  isplitl [H1] <;> iassumption

end Cert.Ring
end
-- ==== Proof.Cells.lean ====
/-
  The kernel between its launch and its end: the launch's resources open the cells of the copies, the body runs, and the cells are closed again with every semaphore
  of the kernel at zero.
-/
module

public import proofs.«01_k».proof.Proof.Slots

@[expose] public section

set_option maxRecDepth 65536

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Fam)

variable {F : FTy → Type} [FloatOps F]

local notation "𝕄" => MT nD τ sig ℕ (Elt F) ℕ UU ℕ

variable (X : Dev nD → S2048x2048.Idx → Elt F .bf16) (κ : GSem nD τ sig → ℕ) (c : Dev nD)

/-! ## The twelve cells, one by one -/

theorem idx_eq {M : Type} [URA M] (Φ : Bool × Bool × Fin 3 → sProp M) : bigSep Finset.univ Φ =
    iprop(Φ (true, false, 0) ∗ Φ (true, false, 1) ∗ Φ (true, false, 2) ∗ Φ (true, true, 0) ∗ Φ (true, true, 1) ∗ Φ (true, true, 2)
      ∗ Φ (false, false, 0) ∗ Φ (false, false, 1) ∗ Φ (false, false, 2) ∗ Φ (false, true, 0) ∗ Φ (false, true, 1) ∗ Φ (false, true, 2)) := bigSep_idx Φ
theorem tok_eq {M : Type} [URA M] (Φ : Bool ⊕ (Bool × Bool × Fin 3) → sProp M) : bigSep Finset.univ Φ =
    iprop(Φ (.inl true) ∗ Φ (.inl false) ∗ Φ (.inr (true, false, 0)) ∗ Φ (.inr (true, false, 1)) ∗ Φ (.inr (true, false, 2))
      ∗ Φ (.inr (true, true, 0)) ∗ Φ (.inr (true, true, 1)) ∗ Φ (.inr (true, true, 2))
      ∗ Φ (.inr (false, false, 0)) ∗ Φ (.inr (false, false, 1)) ∗ Φ (.inr (false, false, 2))
      ∗ Φ (.inr (false, true, 0)) ∗ Φ (.inr (false, true, 1)) ∗ Φ (.inr (false, true, 2))) := bigSep_tok Φ

/-- The kernel's own semaphores at zero on a device. -/
def zeros : sProp 𝕄 := Pipeline.ownSems0 (τ := τ) (⇑semE) c

/-- The cell of a copy, by its direction, side and step. -/
abbrev cellAt (x : Bool × Bool × Fin 3) : GSem nD τ sig := cell x.1 x.2.1 x.2.2 c

theorem open_one (x : Bool × Bool × Fin 3) :
    iprop(fam.cellInvs ER (Rd X) κ ∗ (openTok ER (cellAt c x) ∗ semVal (cellAt c x) 0))
      ⊢ (|={Set.univ}=> (atPos ER (cellAt c x) 0 ∅ 0 ∗ reached ER (cellAt c x) 0) : sProp 𝕄) := by
  iintro ⟨#HI, Ho, Hs⟩
  iapply (Rounds.cell_open ER (Rd X) (g := cellAt c x) (κ := κ (cellAt c x)) (Set.mem_univ _))
  isplitr; · iapply (fam.cellInvs_dorm ER (Rd X) κ c (mem_dorm x.1 x.2.1 x.2.2)); iexact HI
  isplitl [Ho] <;> iassumption

/-- The right to open its cells, with their semaphores at zero, starts a device at round 0 of each. -/
theorem open_all :
    iprop(fam.cellInvs ER (Rd X) κ ∗ (bigSep Finset.univ fun x => openTok ER (cellAt c x)) ∗ zeros c)
      ⊢ (|={Set.univ}=> bigSep Finset.univ fun x => iprop(atPos ER (cellAt c x) 0 ∅ 0 ∗ reached ER (cellAt c x) 0) : sProp 𝕄) := by
  unfold zeros Pipeline.ownSems0
  have h : iprop((bigSep Finset.univ fun x => openTok ER (cellAt c x)) ∗ bigSep Finset.univ fun x => semVal (cellAt c x) 0)
      ⊢ (bigSep Finset.univ fun x => iprop(openTok ER (cellAt c x) ∗ semVal (cellAt c x) 0) : sProp 𝕄) := by rw [bigSep_sep']
  exact ((sep_mono_right h).trans (bigSep_with_persistent fun x _ => open_one X κ c x)).trans (bigSep_fupd _ _)

theorem close_one (x : Bool × Bool × Fin 3) :
    iprop(fam.cellInvs ER (Rd X) κ ∗ over c x.1 x.2.1 x.2.2) ⊢ (|={Set.univ}=> semVal (cellAt c x) 0 : sProp 𝕄) := by
  unfold over
  iintro ⟨#HI, Ha⟩
  iapply (Rounds.cell_close ER (Rd X) (g := cellAt c x) (κ := κ (cellAt c x)) (Set.mem_univ _) id (duties_later X (cellAt c x)))
  isplitr; · iapply (fam.cellInvs_dorm ER (Rd X) κ c (mem_dorm x.1 x.2.1 x.2.2)); iexact HI
  iexact Ha

/-- When the rounds of its cells are over, a device takes their semaphores back at zero. -/
theorem close_all :
    iprop(fam.cellInvs ER (Rd X) κ ∗ bigSep Finset.univ fun x : Bool × Bool × Fin 3 => over c x.1 x.2.1 x.2.2) ⊢ (|={Set.univ}=> zeros c : sProp 𝕄) := by
  unfold zeros Pipeline.ownSems0
  exact (bigSep_with_persistent fun x _ => close_one X κ c x).trans (bigSep_fupd _ _)

/-! ## From the launch to the body -/

/-- What the launch deals a device. -/
def kept : sProp 𝕄 := iprop(fam.launched ER (Rd X) nb c ∗ Pipeline.launchCred O₀ c)

/-- What a device holds of one step of one direction, without its two slots. -/
def link (d : Bool) (s : Fin 3) : sProp 𝕄 :=
  iprop(reached ER (cell d true s c) 0 ∗ (dutyTok ER (cell d false s c) 0 true ∗ reached ER (cell d false s c) 0 ∗ dutyTok ER (cell d true s (nxt d c)) 0 true)
    ∗ receiver c d s ∗ atPos ER (cell d false s c) 0 ∅ 0)

/-- What a device holds when its kernel starts, without its buffers. -/
def ready : sProp 𝕄 :=
  iprop(∃ κ, ctx X κ ∗ gate c ∗ (link c true 0 ∗ link c true 1 ∗ link c true 2) ∗ (link c false 0 ∗ link c false 1 ∗ link c false 2))

/-- What a device holds of the barrier in the end. -/
def ended : sProp 𝕄 := fam.barPos ER (Rd X) c 1 ∅

/-- The tokens of the duties that a device pays, one by one. -/
theorem toks_eq : (bigSep Finset.univ fun t => (dutyTok ER (tokAt c t).1 (tokAt c t).2.1 (tokAt c t).2.2 : sProp 𝕄)) =
    iprop(dutyTok ER (barC (prv true c)) 0 true ∗ dutyTok ER (barC (prv false c)) 0 false
      ∗ dutyTok ER (cell true false 0 c) 0 true ∗ dutyTok ER (cell true false 1 c) 0 true ∗ dutyTok ER (cell true false 2 c) 0 true
      ∗ dutyTok ER (cell true true 0 (nxt true c)) 0 true ∗ dutyTok ER (cell true true 1 (nxt true c)) 0 true ∗ dutyTok ER (cell true true 2 (nxt true c)) 0 true
      ∗ dutyTok ER (cell false false 0 c) 0 true ∗ dutyTok ER (cell false false 1 c) 0 true ∗ dutyTok ER (cell false false 2 c) 0 true
      ∗ dutyTok ER (cell false true 0 (nxt false c)) 0 true ∗ dutyTok ER (cell false true 1 (nxt false c)) 0 true ∗ dutyTok ER (cell false true 2 (nxt false c)) 0 true) := tok_eq _

/-- The credits that the launch deals a device, one by one. -/
theorem cred_eq : (Pipeline.launchCred O₀ c : sProp 𝕄) =
    iprop(cred (tallyAt (cell false true 2 c) (2 + (2 : Fin 3).val) N) ∗ cred (tallyAt (cell true true 2 c) (2 + (2 : Fin 3).val) N)
      ∗ cred (tallyAt (cell false true 1 c) (2 + (1 : Fin 3).val) N) ∗ cred (tallyAt (cell true true 1 c) (2 + (1 : Fin 3).val) N)
      ∗ cred (tallyAt (cell false true 0 c) (2 + (0 : Fin 3).val) N) ∗ cred (tallyAt (cell true true 0 c) (2 + (0 : Fin 3).val) N)
      ∗ cred (tallyAt (barC c) 1 2)) := launch_cred c

/-- What the launch makes of the rings' share on a device. -/
theorem launched_elim : fam.launched ER (Rd X) nb c ⊢
    iprop(∃ κ, fam.cellInvs ER (Rd X) κ ∗ atPos ER (barC c) 0 ∅ 0 ∗ (reached ER (barC (prv true c)) 0 ∗ reached ER (barC (prv false c)) 0)
      ∗ (bigSep Finset.univ fun x => openTok ER (cellAt c x)) ∗ bigSep Finset.univ fun t => dutyTok ER (tokAt c t).1 (tokAt c t).2.1 (tokAt c t).2.2) := by
  unfold Fam.launched Fam.barPos
  rw [show (Finset.univ : Finset (Fin 1)) = {0} from rfl, bigSep_singleton]
  unfold Fam.rides
  have hn : (bigSep (nb c) fun n : Dev nD => reached ER ((n.tc : Thread nD τ), fam.bar) 0)
      ⊢ (iprop(reached ER (barC (prv true c)) 0 ∗ reached ER (barC (prv false c)) 0) : sProp 𝕄) := by
    unfold nb
    rw [bigSep_insert (by simpa using prv_ne c), bigSep_singleton]
    exact Entails.rfl
  have ho : (bigSep (fam.dorm 0) fun sm => openTok ER ((c.tc : Thread nD τ), sm)) ⊢ (bigSep Finset.univ fun x => openTok ER (cellAt c x) : sProp 𝕄) :=
    Entails.of_eq (bigSep_map (s := Finset.univ) semE (Φ := fun sm => (openTok ER ((c.tc : Thread nD τ), sm) : sProp 𝕄)))
  have ht : (bigSep (fam.toks c 0) fun x => dutyTok ER x.1 x.2.1 x.2.2)
      ⊢ (bigSep Finset.univ fun t => dutyTok ER (tokAt c t).1 (tokAt c t).2.1 (tokAt c t).2.2 : sProp 𝕄) :=
    Entails.of_eq (bigSep_map (s := Finset.univ) (tokE c) (Φ := fun x => (dutyTok ER x.1 x.2.1 x.2.2 : sProp 𝕄)))
  iintro ⟨⟨-, Hat, Hr⟩, ⟨%κ, #HI⟩, Ho, Ht⟩
  iexists κ
  isplitr; · iexact HI
  isplitl [Hat]; · iexact Hat
  isplitl [Hr]; · iapply hn; iexact Hr
  isplitl [Ho]; · iapply ho; iexact Ho
  iapply ht; iexact Ht

/-- The launch's resources, the kernel's semaphores at zero and the levels make a device ready. -/
theorem get_ready : iprop(kept X c ∗ zeros c ∗ levAts (L 5) lv) ⊢ (|={Set.univ}=> ready X c : sProp 𝕄) := by
  unfold kept ready gate link receiver ctx
  iintro ⟨⟨Hl, Hc⟩, Hz, #HL⟩
  ihave Hl := (launched_elim X c) $$ Hl
  icases Hl with ⟨%κ, #HI, Hat, ⟨Hr1, Hr2⟩, Ho, Ht⟩
  imod (open_all X κ c) $$ [Ho Hz] with Hp
  · isplitr; · iexact HI
    isplitl [Ho] <;> iassumption
  imodintro
  ihave Hc := (Entails.of_eq (cred_eq (F := F) c)) $$ Hc
  ihave Ht := (Entails.of_eq (toks_eq (F := F) c)) $$ Ht
  ihave Hp := (Entails.of_eq (idx_eq (fun x => (iprop(atPos ER (cellAt c x) 0 ∅ 0 ∗ reached ER (cellAt c x) 0) : sProp 𝕄)))) $$ Hp
  icases Hc with ⟨Cf2, Ct2, Cf1, Ct1, Cf0, Ct0, Cb⟩
  icases Ht with ⟨Tb1, Tb2, Tts0, Tts1, Tts2, Ttr0, Ttr1, Ttr2, Tfs0, Tfs1, Tfs2, Tfr0, Tfr1, Tfr2⟩
  icases Hp with ⟨⟨Pts0, Rts0⟩, ⟨Pts1, Rts1⟩, ⟨Pts2, Rts2⟩, ⟨Ptr0, Rtr0⟩, ⟨Ptr1, Rtr1⟩, ⟨Ptr2, Rtr2⟩,
    ⟨Pfs0, Rfs0⟩, ⟨Pfs1, Rfs1⟩, ⟨Pfs2, Rfs2⟩, ⟨Pfr0, Rfr0⟩, ⟨Pfr1, Rfr1⟩, ⟨Pfr2, Rfr2⟩⟩
  iexists κ
  isplitr; · isplitr <;> iassumption
  isplitl [Tb1 Tb2 Hr1 Hr2 Cb Hat]
  · iframe Tb1 Hr1 Tb2 Hr2 Cb Hat
  isplitl [Ct0 Ct1 Ct2 Tts0 Tts1 Tts2 Ttr0 Ttr1 Ttr2 Pts0 Rts0 Pts1 Rts1 Pts2 Rts2 Ptr0 Rtr0 Ptr1 Rtr1 Ptr2 Rtr2]
  · isplitl [Ct0 Tts0 Ttr0 Pts0 Rts0 Ptr0 Rtr0]
    · iframe Rtr0 Tts0 Rts0 Ttr0 Ct0 Ptr0 Pts0
    isplitl [Ct1 Tts1 Ttr1 Pts1 Rts1 Ptr1 Rtr1]
    · iframe Rtr1 Tts1 Rts1 Ttr1 Ct1 Ptr1 Pts1
    iframe Rtr2 Tts2 Rts2 Ttr2 Ct2 Ptr2 Pts2
  isplitl [Cf0 Tfs0 Tfr0 Pfs0 Rfs0 Pfr0 Rfr0]
  · iframe Rfr0 Tfs0 Rfs0 Tfr0 Cf0 Pfr0 Pfs0
  isplitl [Cf1 Tfs1 Tfr1 Pfs1 Rfs1 Pfr1 Rfr1]
  · iframe Rfr1 Tfs1 Rfs1 Tfr1 Cf1 Pfr1 Pfs1
  iframe Rfr2 Tfs2 Rfs2 Tfr2 Cf2 Pfr2 Pfs2

/-! ## The kernel -/

/-- The four buffers of the copies at some contents. -/
def stores : sProp 𝕄 := iprop(store true false c ∗ store true true c ∗ store false false c ∗ store false true c)

theorem station_intro (d : Bool) (s : Fin 3) : iprop(link c d s ∗ anySlot d false s c ∗ anySlot d true s c) ⊢ station (F := F) c d s := by
  unfold link station room
  iintro ⟨⟨Hr, Ht, Hc, Hp⟩, Hf, Hv⟩
  iframe Hv Hr Ht Hc Hp Hf

/-- The kernel's body on a device that is ready: its input stays, its result is the sum, its buffers are whole again and all its semaphores are zero. -/
theorem run_kernel (Y : S2048x512.Idx → Elt F .f32) :
    iprop(ready X c ∗ stores c ∗ debt c (O₀ c) ∗ xin X c ∗ out c Y)
      ⊢ run (F := F) c (app (cc0_body (F := F))) fun _ => iprop(stores c ∗ zeros c ∗ ended X c ∗ debt c 0 ∗ xin X c ∗ out c (result X c)) := by
  unfold ready stores
  iintro ⟨⟨%κ, #HI, Hg, ⟨Lt0, Lt1, Lt2⟩, ⟨Lf0, Lf1, Lf2⟩⟩, ⟨Sts, Str, Sfs, Sfr⟩, HO, Hx, Hy⟩
  ihave Sts := (store_split true false c) $$ Sts; icases Sts with ⟨Sts0, Sts1, Sts2⟩
  ihave Str := (store_split true true c) $$ Str; icases Str with ⟨Str0, Str1, Str2⟩
  ihave Sfs := (store_split false false c) $$ Sfs; icases Sfs with ⟨Sfs0, Sfs1, Sfs2⟩
  ihave Sfr := (store_split false true c) $$ Sfr; icases Sfr with ⟨Sfr0, Sfr1, Sfr2⟩
  ihave Lt0 := (station_intro c true 0) $$ [Lt0 Sts0 Str0]
  · iframe Lt0 Sts0 Str0
  ihave Lt1 := (station_intro c true 1) $$ [Lt1 Sts1 Str1]
  · iframe Lt1 Sts1 Str1
  ihave Lt2 := (station_intro c true 2) $$ [Lt2 Sts2 Str2]
  · iframe Lt2 Sts2 Str2
  ihave Lf0 := (station_intro c false 0) $$ [Lf0 Sfs0 Sfr0]
  · iframe Lf0 Sfs0 Sfr0
  ihave Lf1 := (station_intro c false 1) $$ [Lf1 Sfs1 Sfr1]
  · iframe Lf1 Sfs1 Sfr1
  ihave Lf2 := (station_intro c false 2) $$ [Lf2 Sfs2 Sfr2]
  · iframe Lf2 Sfs2 Sfr2
  iapply (wp_fupd _ _ _ _)
  iapply (run_body X κ c Y) $$ [HO Hx Hy Hg Lt0 Lt1 Lt2 Lf0 Lf1 Lf2]
  · rw [show O₀ c = due c 8 from O₀_addL c]
    iframe HI HO Hx Hy Hg Lt0 Lt1 Lt2 Lf0 Lf1 Lf2
  unfold closing
  iintro ⟨HO, Hx, Hy, Hb, ⟨⟨⟨Ots0, Otr0⟩, Sts0, Str0⟩, ⟨⟨Ots1, Otr1⟩, Sts1, Str1⟩, ⟨⟨Ots2, Otr2⟩, Sts2, Str2⟩⟩,
    ⟨⟨⟨Ofs0, Ofr0⟩, Sfs0, Sfr0⟩, ⟨⟨Ofs1, Ofr1⟩, Sfs1, Sfr1⟩, ⟨⟨Ofs2, Ofr2⟩, Sfs2, Sfr2⟩⟩⟩
  rw [stored_eq]
  imod (close_all X κ c) $$ [Ots0 Otr0 Ots1 Otr1 Ots2 Otr2 Ofs0 Ofr0 Ofs1 Ofr1 Ofs2 Ofr2] with Hz
  · isplitr; · unfold ctx; icases HI with ⟨HI, -⟩; iexact HI
    iapply (Entails.of_eq (idx_eq (fun x : Bool × Bool × Fin 3 => over (F := F) c x.1 x.2.1 x.2.2)).symm)
    iframe Ots0 Ots1 Ots2 Otr0 Otr1 Otr2 Ofs0 Ofs1 Ofs2 Ofr0 Ofr1 Ofr2
  imodintro
  isplitl [Sts0 Sts1 Sts2 Str0 Str1 Str2 Sfs0 Sfs1 Sfs2 Sfr0 Sfr1 Sfr2]
  · isplitl [Sts0 Sts1 Sts2]; · iapply (store_join true false c); iframe Sts0 Sts1 Sts2
    isplitl [Str0 Str1 Str2]; · iapply (store_join true true c); iframe Str0 Str1 Str2
    isplitl [Sfs0 Sfs1 Sfs2]; · iapply (store_join false false c); iframe Sfs0 Sfs1 Sfs2
    iapply (store_join false true c); iframe Sfr0 Sfr1 Sfr2
  isplitl [Hz]; · iexact Hz
  isplitl [Hb]
  · unfold ended Fam.barPos
    isplitr
    · iexists κ; unfold ctx; icases HI with ⟨HI, -⟩; iexact HI
    isplitl [Hb]; · iexact Hb
    rw [bigSep_empty]; iempintro
  isplitl [HO]; · iexact HO
  isplitl [Hx] <;> iassumption

end Cert.Ring
end
-- ==== Proof.Region.lean ====
/-
  The kernel's region: what its two windows hold before and after the body, and the body's obligation.
-/
module

public import proofs.«01_k».proof.Proof.Cells
public import proofs.«01_k».proof.Proof.Gen.KernelIdeal.Frame

@[expose] public section

set_option maxRecDepth 65536

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Fam owesAt_intro owesAt_elim)

variable {F : FTy → Type} [FloatOps F]

local notation "𝕄" => MT nD τ sig ℕ (Elt F) ℕ UU ℕ

variable (m : (ℓ : Loc nD τ sig) → Buf (Elt F) ℓ)

/-! ## The contents of the buffers -/

/-- A device's buffers at launch; -/
abbrev V₀ (c : Dev nD) : Valuation τ sig (Elt F) := fun b => m (c, b)
/-- after the host's reshape; -/
abbrev V₁ (c : Dev nD) : Valuation τ sig (Elt F) := StableHlo.after hostOps0 (V₀ m c)

/-- The kernel's input on a device: the argument, reshaped. -/
def input (c : Dev nD) : S2048x2048.Idx → Elt F .bf16 := V₁ m c main_v1

/-- and after the kernel. -/
abbrev V₂ (c : Dev nD) : Valuation τ sig (Elt F) := Function.update (V₁ m c) (Proc.devRef .tc main_v2) (result (input m) c)

theorem V₂_v2 (c : Dev nD) : V₂ m c main_v2 = result (input m) c := Function.update_self ..
theorem V₂_of_ne (c : Dev nD) (b : DevRef τ sig) (h : b ≠ Proc.devRef .tc main_v2) : V₂ m c b = V₁ m c b := Function.update_of_ne h ..

/-! ## The region's data -/

/-- The kernel's buffers and registers before its one point: the buffers of the copies, the generator's register, and the device ready. -/
def before (c : Dev nD) : sProp 𝕄 :=
  iprop(Pipeline.scopedRest (Val := Elt F) spec0 c ∗ (∃ r, prngReg c r) ∗ StableHlo.held (c.tc : Thread nD τ) ∅ (V₁ m c) ∗ ready (input m) c)
/-- The same after it. -/
def after (c : Dev nD) : sProp 𝕄 :=
  iprop(Pipeline.scopedRest (Val := Elt F) spec0 c ∗ (∃ r, prngReg c r) ∗ StableHlo.held (c.tc : Thread nD τ) ∅ (V₂ m c) ∗ zeros c ∗ ended (input m) c)

/-- The region's proof data: the two arrays as the region finds them; after the body the input as it was and the result summed; all dues paid in the one point. -/
def dat (c : Dev nD) : Pipeline.Dat τ (Elt F) ℕ ℕ UU ℕ cfg0 c where
  A w := V₁ m c (Proc.devRef .tc (Pipeline.arrRef spec0 w))
  after w _ := match w with
    | ⟨0, _⟩ => input m c
    | ⟨1, _⟩ => result (input m) c
  Φ t := if t.val = 0 then before m c else after m c
  q _ := fullShare
  owed t := if t.val = 0 then O₀ c else 0

/-! ## The windows -/

/-- The input's window is the whole array. -/
theorem read_in (t : Fin cfg0.N) (G : S2048x2048.Idx → Elt F .bf16) : ((cfg0.win 0).blk t).view.read (Elt F) G = G := by
  funext y
  exact congrArg G (funext fun a => Fin.ext (Pipeline.Window.rect_emb_val_of_index_zero win0_0 t a rfl y))

/-- The result's window is the whole array. -/
theorem read_out (t : Fin cfg0.N) (G : S2048x512.Idx → Elt F .f32) : ((cfg0.win 1).blk t).view.read (Elt F) G = G := by
  funext y
  exact congrArg G (funext fun a => Fin.ext (Pipeline.Window.rect_emb_val_of_index_zero win0_1 t a rfl y))

/-- The body finds the input in its window. -/
theorem before_in (c : Dev nD) (d) : (dat m c).before 0 t0_0 d = input m c := by
  unfold Pipeline.Dat.before
  rw [if_pos (fetch0_0 _)]
  exact read_in t0_0 (input m c)

/-- Its result's window is written back as it leaves it. -/
theorem flushed_out (c : Dev nD) (t : Fin cfg0.N) :
    (dat m c).flushed 1 t = ((cfg0.win 1).blk t).view.read (Elt F) (result (input m) c) := by
  obtain rfl := fin_N0 t
  exact (read_out t0_0 (result (input m) c)).symm

theorem cover_out (i : S2048x512.Idx) : ∃ t : Fin cfg0.N, (cfg0.win 1).flush t = true ∧ i ∈ ((cfg0.win 1).blk t).view.set := by
  refine ⟨t0_0, flush0_1 _, Finset.mem_map.mpr ⟨i, Finset.mem_univ _, ?_⟩⟩
  exact funext fun a => Fin.ext (Pipeline.Window.rect_emb_val_of_index_zero win0_1 t0_0 a rfl i)

/-- The input's array stays; -/
theorem arr_in (c : Dev nD) : (dat m c).arrAt 0 cfg0.N = V₁ m c main_v1 := (dat m c).arrAt_in 0 rfl _
/-- the result's array ends at the result. -/
theorem arr_out (c : Dev nD) : (dat m c).arrAt 1 cfg0.N = result (input m) c :=
  (dat m c).arrAt_eq_of_cover 1 (result (input m) c) (fun t _ => flushed_out m c t) cover_out

/-! ## The body -/

/-- The buffers that no window stages are the four buffers of the copies. -/
theorem rest_eq (c : Dev nD) : (Pipeline.scopedRest (Val := Elt F) spec0 c : sProp 𝕄) = stores c := scopedRest0_eq c

/-- No buffer at all is held at any contents. -/
theorem held_none (c : Dev nD) (W W' : Valuation τ sig (Elt F)) :
    (StableHlo.held (c.tc : Thread nD τ) ∅ W : sProp 𝕄) ⊢ StableHlo.held (c.tc : Thread nD τ) ∅ W' := by
  unfold StableHlo.held
  exact Entails.of_eq (bigSep_empty.trans bigSep_empty.symm)

/-- The body's obligation. -/
theorem body (c : Dev nD) : Pipeline.BodyObligation (dat m c) (defs₀ (F := F)) 𝒱₀ 0 Set.univ := fun t => by
  obtain rfl := fin_N0 t
  rw [bigSep_W0, bigSep_W0]
  show iprop(before m c ∗ (dat m c).owesAt 0 t0_0.castSucc ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d)))
    ⊢ run (F := F) c (app (cc0_body (F := F))) fun _ => iprop(after m c ∗ (dat m c).owesAt 0 t0_0.succ ∗ xin (input m) c ∗ out c (result (input m) c))
  unfold before after
  rw [rest_eq]
  iintro ⟨⟨Hs, Hp, Hh, Hr⟩, HO, ⟨%d0, H0⟩, ⟨%d1, H1⟩⟩
  rw [before_in]
  ihave HO := (owesAt_elim (dat m c) 0 t0_0.castSucc (O₀ c) rfl) $$ HO
  iapply (wp_wand _ _ _ (Q := fun _ => iprop(stores c ∗ zeros c ∗ ended (input m) c ∗ debt c 0 ∗ xin (input m) c ∗ out c (result (input m) c)))) $$ [Hs Hr HO H0 H1]
  · iapply (run_kernel (input m) c ((dat m c).before 1 t0_0 d1))
    unfold debt
    iframe Hr Hs HO H0 H1
  iintro %_ ⟨Hs, Hz, He, HO, H0, H1⟩
  isplitl [Hs Hp Hh Hz He]
  · isplitl [Hs]; · iexact Hs
    isplitl [Hp]; · iexact Hp
    isplitl [Hh]; · iapply (held_none c (V₁ m c)); iexact Hh
    isplitl [Hz] <;> iassumption
  isplitl [HO]
  · unfold debt; icases HO with ⟨%W, HO⟩
    iapply (owesAt_intro (dat m c) 0 t0_0.succ 0 rfl rfl W); iexact HO
  isplitl [H0] <;> iassumption

end Cert.Ring
end
-- ==== Proof.Launch.lean ====
/-
  The program's run: the host's reshape, then the kernel on all devices. It ends with the argument unchanged, the result that the ring sums, and every semaphore at zero.
-/
module

public import proofs.«01_k».proof.Proof.Region

@[expose] public section

set_option maxRecDepth 65536

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Fam tallyL tallyL_pos)

variable {F : FTy → Type} [FloatOps F]

local notation "𝕄" => MT nD τ sig ℕ (Elt F) ℕ UU ℕ

variable (m : (ℓ : Loc nD τ sig) → Buf (Elt F) ℓ) (ρ : Dev nD → PrngReg)

abbrev adm : (p : Fin 1) → (pcfgs (F := F) p).Adm := fun p => (cfgs p).toPCfg_adm

def pdats : (p : Fin 1) → (c : Dev nD) → Pipeline.Dat τ (Elt F) ℕ ℕ UU ℕ (Pipeline.pin (pcfgs (F := F)) adm p) c
  | 0 => dat m

/-! ## The buffers -/

/-- A device's unscoped buffers. -/
def bufs : Finset (DevRef τ sig) := (StableHlo.tcRefs τ sig).filter fun b => ¬ b.isScoped

/-- A whole buffer of a device. -/
abbrev pt (c : Dev nD) (b : Ref sig .tc) (f : Buf (Elt F) ((c : Thread nD τ).loc b)) : sProp 𝕄 := ((c : Thread nD τ).loc b) ↦{fullShare} f

theorem unscoped_held (c : Dev nD) (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

theorem held_bufs (c : Dev nD) (W : Valuation τ sig (Elt F)) : (StableHlo.held (c : Thread nD τ) bufs W : sProp 𝕄)
    = iprop(pt c main_arg0 (W main_arg0) ∗ pt c main_v1 (W main_v1) ∗ pt c main_v2 (W main_v2)) := by
  unfold StableHlo.held
  rw [bigSep_eq_bigSepL_of_eq [Proc.devRef .tc main_arg0, Proc.devRef .tc main_v1, Proc.devRef .tc main_v2] (by decide) (by decide)]
  rfl

theorem held_arrs (c : Dev nD) (W : Valuation τ sig (Elt F)) :
    (StableHlo.held (c.tc : Thread nD τ) (Pipeline.arrRefs (τ := τ) (pcfgs (F := F) 0).spec) W : sProp 𝕄)
      = iprop(pt c main_v1 (W main_v1) ∗ pt c main_v2 (W main_v2)) := by
  show bigSep (Pipeline.arrRefs (τ := τ) spec0) _ = _
  rw [bigSep_eq_bigSepL_of_eq [Proc.devRef .tc main_v1, Proc.devRef .tc main_v2] (by decide) (by decide)]
  rfl

theorem held_arg (c : Dev nD) (W : Valuation τ sig (Elt F)) :
    (StableHlo.held (c.tc : Thread nD τ) {Proc.devRef .tc main_arg0} W : sProp 𝕄) = pt c main_arg0 (W main_arg0) := by
  unfold StableHlo.held
  rw [bigSep_singleton]

theorem V₂_arg (c : Dev nD) : V₂ m c main_arg0 = V₁ m c main_arg0 := V₂_of_ne m c _ (by decide)
theorem V₂_v1 (c : Dev nD) : V₂ m c main_v1 = V₁ m c main_v1 := V₂_of_ne m c _ (by decide)

/-! ## The segments -/

/-- What rides beside a device's buffers up to the kernel. -/
def rest (c : Dev nD) : sProp 𝕄 := iprop((kept (input m) c ∗ ∃ r, prngReg c r) ∗ ∃ W, owes (c : Thread nD τ) (O₀ c) W)

theorem ops_bufs : ∀ op ∈ (hostOps0 : List (HloOp τ sig (Elt F))), op.bufs ⊆ bufs := fun op h => by
  simp only [List.mem_singleton] at h
  subst h
  show ({Proc.devRef .tc main_arg0, Proc.devRef .tc main_v1} : Finset (DevRef τ sig)) ⊆ bufs
  decide
theorem ops_fresh : ∀ op ∈ (hostOps0 : List (HloOp τ sig (Elt F))), op.fresh = ∅ := List.forall_iff_forall_mem.mp hostOps0_fresh

/-- The host's reshape. -/
def seg0 : Pipeline.HostSeg (Name := ℕ) (U := UU) (pcfgs (F := F)) defs₀ 𝒱₀ (L 5) lv :=
  Pipeline.HostSeg.ofOps _ _ _ _ _ bufs hostOps0 ops_bufs ops_fresh (V₀ m) (rest m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 semE := by decide

/-- Every due of a device has an index above the windows' index. -/
theorem due_above (c : Dev nD) {g : GSem nD τ sig} {i : ℕ} (h : 0 < O₀ c g i) : i ∈ L 5 g ∧ 0 < lv g i := by
  obtain ⟨x, hx, rfl, rfl⟩ := tallyL_pos h
  simp only [List.mem_cons, List.not_mem_nil, or_false] at hx
  rcases hx with rfl | rfl | rfl | rfl | rfl | rfl | rfl | rfl <;>
    exact ⟨SiteBlocks.mem_L _ _ (Nat.le_of_ble_eq_true rfl), Nat.le_of_ble_eq_true rfl⟩

theorem cut : Pipeline.LevelCutOwed (pcfgs (F := F)) adm (pdats m) 0 (L 5) lv 0 (fun _ => 0) where
  hι _ _ _ := SiteBlocks.mem_L _ _ (by decide)
  hιb _ _ _ := le_refl _
  hD c t g i h := by
    have e : (pdats m 0 c).owed t = if t.val = 0 then O₀ c else 0 := rfl
    rw [e] at h
    split at h
    · exact due_above c h
    · exact absurd h (Nat.lt_irrefl 0)

theorem owed_first (c : Dev nD) : (pdats m 0 c).owed 0 = 0 + O₀ c := (zero_add _).symm
theorem owed_last (c : Dev nD) : (pdats m 0 c).owed (Fin.last _) = 0 := rfl

theorem opened (c : Dev nD) : iprop(kept (input m) c ∗ Pipeline.ownSems0 (τ := τ) semE c ∗ levAts (L 5) lv) ⊢ (|={Set.univ}=> ready (input m) c : sProp 𝕄) :=
  get_ready (input m) c

theorem arr_first (c : Dev nD) (w : Fin (Pipeline.pin (pcfgs (F := F)) adm 0).W) :
    (pdats m 0 c).arrAt w 0 = V₁ m c (Proc.devRef .tc (Pipeline.arrRef (Pipeline.pin (pcfgs (F := F)) adm 0).spec w)) := rfl

theorem arr_last (c : Dev nD) : ∀ w : Fin (Pipeline.pin (pcfgs (F := F)) adm 0).W,
    (pdats m 0 c).arrAt w (Pipeline.pin (pcfgs (F := F)) adm 0).N = V₂ m c (Proc.devRef .tc (Pipeline.arrRef (Pipeline.pin (pcfgs (F := F)) adm 0).spec w))
  | ⟨0, _⟩ => (arr_in m c).trans (V₂_v1 m c).symm
  | ⟨1, _⟩ => (arr_out m c).trans (V₂_v2 m c).symm

set_option backward.isDefEq.respectTransparency.types false in
/-- The kernel. -/
def reg0 : Pipeline.RegionSeg (pcfgs (F := F)) adm (pdats m) 0 defs₀ 𝒱₀ (L 5) lv 0 :=
  Pipeline.RegionSeg.ofTalk (pcfgs (F := F)) adm (pdats m) 0 defs₀ 𝒱₀ (L 5) lv 0 semE own_facts
    ∅ {Proc.devRef .tc main_arg0} (Finset.empty_subset _) kit rfl (fun c => (body m c).loose)
    (fun _ => 0) O₀ (owed_first m) (owed_last m) (fun _ => rfl) (fun c => (pdats m 0 c).share_full fun _ => rfl)
    (V₁ m) (V₂ m) (fun c b hb => by
      rw [Finset.sdiff_empty, Finset.mem_singleton] at hb; subst hb; exact V₂_arg m c)
    (kept (input m)) (ended (input m)) (ready (input m)) (ended (input m)) (opened m)
    (fun _ => Entails.rfl) (fun _ => Entails.rfl) (fun c => by iintro H; imodintro; iexact H)
    (fun _ => 0) (cut m) (fun _ => iprop(emp)) (arr_first m) (arr_last m)

theorem reg0_pre (c : Dev nD) : iprop(StableHlo.held (c : Thread nD τ) bufs (V₁ m c) ∗ rest m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) {Proc.devRef .tc main_arg0} (V₁ m c) ∗ emp) ∗ kept (input m) c ∗ ∃ Wd, owes (c : Thread nD τ) (0 + O₀ c) Wd)
  rw [held_arrs, held_arg, held_bufs, zero_add]
  unfold rest
  iintro ⟨⟨Ha, H1, H2⟩, ⟨HK, Hp⟩, HO⟩
  isplitl [H1 H2]; · isplitl [H1] <;> iassumption
  isplitl [Hp]; · iexact Hp
  isplitl [Ha]
  · isplitl [Ha]; · iexact Ha
    iempintro
  isplitl [HK] <;> iassumption

/-- What a device holds in the end, beside owing nothing. -/
abbrev last (c : Dev nD) : sProp 𝕄 := iprop(StableHlo.held (c : Thread nD τ) bufs (V₂ m c) ∗ ended (input m) c)

theorem reg0_post (c : Dev nD) : (reg0 m).post c ⊢ iprop(last m c ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) {Proc.devRef .tc main_arg0} (V₂ m c) ∗ emp) ∗ ended (input m) c
    ∗ ∃ Wd, owes (c : Thread nD τ) (0 : CellTallies nD τ sig ℕ) Wd) ⊢ _
  unfold last
  rw [held_arrs, held_arg, held_bufs]
  iintro ⟨⟨H1, H2⟩, -, ⟨Ha, -⟩, He, HO⟩
  isplitl [Ha H1 H2 He]
  · isplitl [Ha H1 H2]
    · isplitl [Ha]; · iexact Ha
      isplitl [H1] <;> iassumption
    iexact He
  iexact HO

/-- The program's segments. -/
def segs : List (Pipeline.Seg (pcfgs (F := F)) adm (pdats m) 0 defs₀ 𝒱₀ (L 5) lv) := [.host (seg0 m), .region (reg0 m)]

theorem main_eq (c : Dev nD) : main (F := F) c = Pipeline.Seg.run (segs m) := main_segs adm (pdats m) 0 𝒱₀ (L 5) lv (seg0 m) (reg0 m) rfl c

/-! ## The launch -/

/-- The launch's element of the rings. -/
abbrev ringElt : URounds (GSem nD τ sig) Bool := launchOf fam.S fam.Sd fam.T

/-- The launch's element: the pipeline's own cells, and the rings. -/
def u₀ : UU :=
  (initOf (Pipeline.cells (Pipeline.pin (pcfgs (F := F)) adm) cellOf_inj) (Pipeline.launchToks (Pipeline.pin (pcfgs (F := F)) adm) cellOf_inj), ringElt)

/-- The rings' element, given to device 0. -/
def share (c : Dev nD) : sProp 𝕄 := if c = 0 then BI.own (ER ringElt) else iprop(emp)

theorem shares : bigSep Finset.univ (share (F := F)) = BI.own (ER ringElt) := by
  have h0 : share (F := F) 0 = BI.own (ER ringElt) := if_pos rfl
  have h1 : bigSep (Finset.univ.erase 0) (share (F := F)) = iprop(emp) :=
    (bigSep_congr fun c hc => if_neg (Finset.ne_of_mem_erase hc)).trans (BI.bigSep_emp_const _)
  rw [bigSep_univ_at _ (0 : Dev nD), h0, h1]
  exact BI.equiv_iff.mp sep_emp

theorem no_dues (c : Dev nD) : (Pipeline.launchCred (fun _ => 0) c : sProp 𝕄) = iprop(emp) := by
  rw [Pipeline.launchCred_of_sum (fun _ => 0) (fun _ => 0) rfl (fun d g h => absurd rfl h) c]
  exact cred_zero

theorem unscoped_sems (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

/-- The launch's resources of all devices make what every device starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ share c)) ∗ levAts (L 5) lv)
      ⊢ (|={Set.univ}=> bigSep Finset.univ fun c : Dev nD => iprop(StableHlo.held (c : Thread nD τ) bufs (V₀ m c) ∗ rest m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ share c)
      ⊢ (iprop((semVal (barC c) 0 ∗ Pipeline.launchCred (fun _ => 0) c) ∗ share c
        ∗ (StableHlo.held (c : Thread nD τ) bufs (V₀ m c) ∗ owes (c : Thread nD τ) (O₀ c) ∅ ∗ Pipeline.launchCred O₀ c ∗ prngReg c (ρ c))) : sProp 𝕄) := by
    rw [show unscopedBufs c (fun b => m ((c : Thread nD τ).loc b)) = StableHlo.held (c : Thread nD τ) bufs (V₀ m c) from unscoped_held c (V₀ m c),
      unscoped_sems, no_dues]
    iintro ⟨Hh, Hs, HO, Hc, Hp, HG⟩
    isplitl [Hs]
    · isplitl [Hs]; · iexact Hs
      iempintro
    isplitl [HG]; · iexact HG
    iframe Hh HO Hc Hp
  have hend (c : Dev nD) : iprop(fam.launched ER (Rd (input m)) nb c
        ∗ (StableHlo.held (c : Thread nD τ) bufs (V₀ m c) ∗ owes (c : Thread nD τ) (O₀ c) ∅ ∗ Pipeline.launchCred O₀ c ∗ prngReg c (ρ c)))
      ⊢ (iprop(StableHlo.held (c : Thread nD τ) bufs (V₀ m c) ∗ rest m c) : sProp 𝕄) := by
    unfold rest kept
    iintro ⟨Hl, Hh, HO, Hc, Hp⟩
    isplitl [Hh]; · iexact Hh
    isplitr [HO]
    · isplitl [Hl Hc]; · isplitl [Hl] <;> iassumption
      iexists _; iexact Hp
    iexists ∅; iexact HO
  have hcut : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ share c))
      ⊢ (iprop((bigSep Finset.univ fun c : Dev nD => iprop(semVal (barC c) 0 ∗ Pipeline.launchCred (fun _ => 0) c)) ∗ bigSep Finset.univ (share (F := F))
        ∗ bigSep Finset.univ fun c : Dev nD => iprop(StableHlo.held (c : Thread nD τ) bufs (V₀ m c) ∗ owes (c : Thread nD τ) (O₀ c) ∅
          ∗ Pipeline.launchCred O₀ c ∗ prngReg c (ρ c))) : sProp 𝕄) := by
    rw [← bigSep_sep', ← bigSep_sep']
    exact bigSep_mono fun c _ => hcore c
  have hall : iprop((bigSep Finset.univ fun c : Dev nD => fam.launched ER (Rd (input m)) nb c)
        ∗ bigSep Finset.univ fun c : Dev nD => iprop(StableHlo.held (c : Thread nD τ) bufs (V₀ m c) ∗ owes (c : Thread nD τ) (O₀ c) ∅
          ∗ Pipeline.launchCred O₀ c ∗ prngReg c (ρ c)))
      ⊢ (bigSep Finset.univ fun c : Dev nD => iprop(StableHlo.held (c : Thread nD τ) bufs (V₀ m c) ∗ rest m c) : sProp 𝕄) := by
    rw [← bigSep_sep']
    exact bigSep_mono fun c _ => hend c
  iintro ⟨H, -⟩
  ihave H := hcut $$ H
  icases H with ⟨Hv, HG, Hr⟩
  imod (fam.funds ER (Rd (input m)) (fun _ _ h => h) nb) $$ [Hv HG] with Hl
  · isplitl [Hv]; · iexact Hv
    iapply (Entails.of_eq (shares (F := F))); iexact HG
  imodintro
  iapply hall
  isplitl [Hl] <;> iassumption

/-! ## The run -/

theorem bar_only : ∀ sm : SemLoc sig, sm.isScoped .tc = false → sm = .reg barrier0 := by decide

set_option backward.isDefEq.respectTransparency.types false in
/-- From any memory with all semaphores at zero, every weakly fair execution of the program on the 32 devices terminates; in the end every device's argument is
    unchanged, its result is the rings' sum of the devices' reshaped arguments, and every semaphore of the machine is at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_v2) = result (input m) c) ∧ r.2.sem = fun _ => 0) :=
  Pipeline.θ_run_regions_kit_sems (pcfgs (F := F)) adm (pdats m) 0 cellOf_inj EP defs₀ 𝒱₀ (L 5) lv m ρ main (segs m)
    (fun c Q => by rw [main_eq m c])
    (by simp only [segs, Pipeline.Seg.pipes_host, Pipeline.Seg.pipes_region, Pipeline.Seg.pipes_nil]; decide)
    (O₀ := O₀) (hL := fun g h => SiteBlocks.hL 5 g h) (G := share) (u₀ := u₀)
    (hu₀ := by
      unfold u₀
      iintro Hu
      ihave H := (ownU_pair _ _) $$ Hu
      icases H with ⟨HP, HX⟩
      imodintro
      isplitl [HP]; · iexact HP
      rw [shares]; iexact HX)
    (T₀ := fun c : Dev nD => iprop(StableHlo.held (c : Thread nD τ) bufs (V₀ m c) ∗ rest m c)) (Tₙ := last m)
    (hch := ⟨fun c => .rfl, fun c => reg0_pre m c, fun c => reg0_post m c⟩)
    (hinit := init m ρ)
    (QY := fun c s => (s.mem ((Memref.whole main_arg0).view.loc (c : Thread nD τ)) = V₂ m c main_arg0
      ∧ s.mem ((Memref.whole main_v2).view.loc (c : Thread nD τ)) = V₂ m c main_v2) ∧ s.sem (barC c) = 0)
    (hfin := fun c s' => by
      unfold last
      rw [held_bufs]
      unfold ended
      iintro ⟨⟨⟨Ha, -, Hr⟩, He⟩, HSI⟩
      icombine HSI Ha gives %ha
      icombine HSI Hr gives %hr
      imod (fam.barPos_read ER (Rd (input m)) c (duties_later (input m) (barC c) 1 le_rfl) ∅ s') $$ [He HSI] with ⟨%hb, HSI⟩
      · isplitl [He] <;> iassumption
      imodintro
      isplitr
      · ipureintro
        exact ⟨⟨Buf.eq_of_forall_mem_univ ha, Buf.eq_of_forall_mem_univ hr⟩, hb⟩
      iexact HSI)
    (hQ := fun s h hs => ⟨fun c => by
        obtain ⟨⟨ha, hr⟩, -⟩ := h c
        rw [V₂_arg] at ha
        rw [V₂_v2] at hr
        exact ⟨ha.trans (V_main_arg0 m c), hr⟩,
      sem_eq_zero hs fun c sm hsm => by
        obtain rfl := bar_only sm hsm
        exact (h c).2⟩)

end Cert.Ring
end
-- ==== Proof.Same.lean ====
/-
  The kernel read at the bit patterns and the kernel read at the extended reals are printed from one text, so that they are one program over any float values.
-/
module

public import proofs.«01_k».proof.Proof.Gen.Kernel
public import proofs.«01_k».proof.Proof.Gen.KernelIdeal

@[expose] public section

set_option maxRecDepth 16384

noncomputable section

namespace Cert.Ring

open Idealize.ShloMosaic

variable {F : FTy → Type} [FloatOps F]

/-- The two programs have one body of the kernel. -/
theorem body_same : @Cert.Kernel.cc0_body F _ _ = @Cert.KernelIdeal.cc0_body F _ _ := rfl

theorem defs₀_same : Cert.Kernel.defs₀ (F := F) = Cert.KernelIdeal.defs₀ (F := F) := by
  refine congrArg Defs.onTc (funext fun l => funext fun x => ?_)
  match l, x with
  | 0, (_, _) => rfl

/-- The two programs have one table of bodies. -/
theorem defs_same : Cert.Kernel.defs (F := F) = Cert.KernelIdeal.defs (F := F) := congrArg (Pipeline.defs Cert.KernelIdeal.pcfgs) defs₀_same

/-- The two programs have one text of their devices. -/
theorem main_same : Cert.Kernel.main (F := F) = Cert.KernelIdeal.main (F := F) := rfl

end Cert.Ring
end
-- ==== Proof.Value.lean ====
/-
  What the rings compute over the extended reals. A device holds one of four matrices of 2048 by 2048 numbers, the one that its coordinate along z names; the
  result of a device is the block of 512 columns, named by the same coordinate, of the sum of the four matrices.
-/
module

public import proofs.«01_k».proof.Proof.Region
public import proofs.«01_k».proof.Proof.Gen.ReferenceIdeal
public import Idealize.ShloMosaic.Lib.Layout
public import Idealize.ShloMosaic.Lib.IdealHost
public import Idealize.ShloMosaic.Lib.ValueLayout
public import Idealize.ShloMosaic.Lib.Pipeline.ValueKit.Geometry
public import Idealize.ShloMosaic.PureOps.Ideal.Laws

@[expose] public section

set_option maxRecDepth 16384

noncomputable section

namespace Cert.Ring

open Cert.KernelIdeal Cert.KernelIdeal.Gen
open Idealize.ShloMosaic Idealize.ShloMosaic.TcCoe

/-! ## Sums of four -/

/-- Starting one step to the right, the sum of four numbers around a ring is the sum of all four. -/
theorem sum_right (f : Fin 4 → EReal) (z : Fin 4) : f (z + 1) + f (z + 2) + f (z + 3) + f z = ∑ s, f s := by
  rw [Fin.sum_univ_four]
  fin_cases z <;> simp only [Fin.reduceFinMk, Fin.zero_eta, Fin.mk_one, Fin.isValue, Fin.reduceAdd, zero_add] <;> abel

/-- The same from the left. -/
theorem sum_left (f : Fin 4 → EReal) (z : Fin 4) : f (z + 3) + f (z + 2) + f (z + 1) + f z = ∑ s, f s := by
  rw [← sum_right f z]
  abel

/-! ## Coordinates -/

/-- A device's coordinate along z. -/
def zc (c : Dev nD) : Fin 4 := ⟨c.val % 4, Nat.mod_lt _ (by decide)⟩

theorem zc_right : ∀ c : Dev nD, zc (right c) = zc c + 1 := by decide +kernel
theorem zc_left : ∀ c : Dev nD, zc (left c) = zc c + 3 := by decide +kernel

/-- An index of the four matrices. -/
def at3 (s : Fin 4) (a b : Fin 2048) : Cert.ReferenceIdeal.S4x2048x2048.Idx := fun
  | 0 => s
  | 1 => a
  | 2 => b

/-- A row of a direction's half, as a row of the matrix. -/
def row (d : Bool) (r : Fin 1024) : Fin 2048 := ⟨(if d then 0 else 1024) + r.val, by have := r.isLt; split <;> omega⟩
/-- A column of a device's block, as a column of the matrix. -/
def col (c : Dev nD) (k : Fin 512) : Fin 2048 := ⟨(zc c).val * 512 + k.val, by have := k.isLt; have := (zc c).isLt; omega⟩

theorem off1_eq : ∀ c : Dev nD, k0_off1 c = ![0, (c.val + 3) % 4 * 512] := by decide +kernel
theorem off2_eq : ∀ c : Dev nD, k0_off2 c = ![1024, (c.val + 1) % 4 * 512] := by decide +kernel
theorem off3_eq : ∀ (c : Dev nD) (s : Fin 3), k0_off3 c (BitVec.ofNat 32 s.val) = ![0, (c.val + 6 - s.val) % 4 * 512] := by decide +kernel
theorem off4_eq : ∀ (c : Dev nD) (s : Fin 3), k0_off4 c (BitVec.ofNat 32 s.val) = ![1024, (c.val + 2 + s.val) % 4 * 512] := by decide +kernel

/-! ## The rings' sums -/

variable (G : Cert.ReferenceIdeal.S4x2048x2048.Idx → EReal)

/-- What the devices hold of the four matrices: each the one that its coordinate names. -/
def part (c : Dev nD) : S2048x2048.Idx → Elt Ideal .bf16 := fun i => G (at3 (zc c) (i 0) (i 1))

/-- A chunk of what a device holds, at a row and a column. -/
theorem chunk_part (e : Dev nD) (off : Fin 2 → ℕ) (inb) (r : Fin 1024) (k : Fin 512) (a b : Fin 2048) (ha : off 0 + r.val = a.val) (hb : off 1 + k.val = b.val) :
    chunk (part G e) off inb (ix r k) = G (at3 (zc e) a b) := by
  unfold chunk part
  congr 2
  · exact Fin.ext ((ValueKit.rect_emb_unit_val (s := S2048x2048) off S1024x512.size inb (ix r k) 0).trans ha)
  · exact Fin.ext ((ValueKit.rect_emb_unit_val (s := S2048x2048) off S1024x512.size inb (ix r k) 1).trans hb)

/-- The chunk that a device sends first, read at the column block of the device that it is bound for. -/
theorem first_true (c e : Dev nD) (h : (e.val + 3) % 4 = c.val % 4) (r : Fin 1024) (k : Fin 512) :
    first true (part G) e (ix r k) = G (at3 (zc e) (row true r) (col c k)) :=
  chunk_part G e _ _ r k _ _ (by rw [off1_eq]; rfl) (by rw [off1_eq]; show (e.val + 3) % 4 * 512 + k.val = _; rw [h]; rfl)

theorem first_false (c e : Dev nD) (h : (e.val + 1) % 4 = c.val % 4) (r : Fin 1024) (k : Fin 512) :
    first false (part G) e (ix r k) = G (at3 (zc e) (row false r) (col c k)) :=
  chunk_part G e _ _ r k _ _ (by rw [off2_eq]; rfl) (by rw [off2_eq]; show (e.val + 1) % 4 * 512 + k.val = _; rw [h]; rfl)

/-- The chunk that a device adds at a step, read at the column block of the device that the sum is bound for. -/
theorem mine_true (c e : Dev nD) (s : Fin 3) (h : (e.val + 6 - s.val) % 4 = c.val % 4) (r : Fin 1024) (k : Fin 512) :
    mine true s (part G) e (ix r k) = G (at3 (zc e) (row true r) (col c k)) :=
  chunk_part G e _ _ r k _ _ (by rw [off3_eq]; rfl) (by rw [off3_eq]; show (e.val + 6 - s.val) % 4 * 512 + k.val = _; rw [h]; rfl)

theorem mine_false (c e : Dev nD) (s : Fin 3) (h : (e.val + 2 + s.val) % 4 = c.val % 4) (r : Fin 1024) (k : Fin 512) :
    mine false s (part G) e (ix r k) = G (at3 (zc e) (row false r) (col c k)) :=
  chunk_part G e _ _ r k _ _ (by rw [off4_eq]; rfl) (by rw [off4_eq]; show (e.val + 2 + s.val) % 4 * 512 + k.val = _; rw [h]; rfl)

theorem bound_true : ∀ c : Dev nD, ((left (left (left c))).val + 3) % 4 = c.val % 4 ∧ ((left (left c)).val + 6 - (0 : Fin 3).val) % 4 = c.val % 4
    ∧ ((left c).val + 6 - (1 : Fin 3).val) % 4 = c.val % 4 ∧ (c.val + 6 - (2 : Fin 3).val) % 4 = c.val % 4 := by decide +kernel
theorem bound_false : ∀ c : Dev nD, ((right (right (right c))).val + 1) % 4 = c.val % 4 ∧ ((right (right c)).val + 2 + (0 : Fin 3).val) % 4 = c.val % 4
    ∧ ((right c).val + 2 + (1 : Fin 3).val) % 4 = c.val % 4 ∧ (c.val + 2 + (2 : Fin 3).val) % 4 = c.val % 4 := by decide +kernel

theorem zc_left2 : ∀ c : Dev nD, zc (left (left c)) = zc c + 2 := by decide +kernel
theorem zc_left3 : ∀ c : Dev nD, zc (left (left (left c))) = zc c + 1 := by decide +kernel
theorem zc_right2 : ∀ c : Dev nD, zc (right (right c)) = zc c + 2 := by decide +kernel
theorem zc_right3 : ∀ c : Dev nD, zc (right (right (right c))) = zc c + 3 := by decide +kernel

/-- A half of a device's result is the sum of the four matrices at the half's rows and the device's columns. -/
theorem half_eq (d : Bool) (c : Dev nD) (r : Fin 1024) (k : Fin 512) :
    half d (part G) c (ix r k) = ∑ s : Fin 4, G (at3 s (row d r) (col c k)) := by
  cases d
  · obtain ⟨h0, h1, h2, h3⟩ := bound_false c
    refine Eq.trans ?_ (sum_left (fun s => G (at3 s (row false r) (col c k))) (zc c))
    rw [← zc_right3, ← zc_right2, ← zc_right, ← first_false G c _ h0, ← mine_false G c _ 0 h1, ← mine_false G c _ 1 h2, ← mine_false G c _ 2 h3]
    rfl
  · obtain ⟨h0, h1, h2, h3⟩ := bound_true c
    refine Eq.trans ?_ (sum_right (fun s => G (at3 s (row true r) (col c k))) (zc c))
    rw [← zc_left3, ← zc_left2, ← zc_left, ← first_true G c _ h0, ← mine_true G c _ 0 h1, ← mine_true G c _ 1 h2, ← mine_true G c _ 2 h3]
    rfl

/-- A device's result is the sum of the four matrices at the device's columns. -/
theorem result_eq (c : Dev nD) (i : S2048x512.Idx) : result (part G) c i = ∑ s : Fin 4, G (at3 s (i 0) (col c (i 1))) := by
  have hi : (i 0).val < 2048 := (i 0).isLt
  unfold result
  split
  · next h =>
    have e : row true ⟨(i 0).val, h⟩ = i 0 := Fin.ext (Nat.zero_add _)
    exact (half_eq G true c _ _).trans (by rw [e])
  · next h =>
    have e : row false ⟨(i 0).val - 1024, by omega⟩ = i 0 := Fin.ext (show 1024 + ((i 0).val - 1024) = _ by omega)
    exact (half_eq G false c _ _).trans (by rw [e])

/-! ## The reference's sum -/

/-- The sum along the first axis that the reference takes, with its changes of format. -/
def whole : Cert.ReferenceIdeal.S2048x2048.Idx → EReal := fun j => ∑ s : Fin 4, G (at3 s (j 0) (j 1))

theorem reduces_first : Cert.ReferenceIdeal.S4x2048x2048.Reduces [0] Cert.ReferenceIdeal.S2048x2048 := by decide

theorem lift_first (j : Cert.ReferenceIdeal.S2048x2048.Idx) (s : Fin 4) : reduces_first.lift j s = at3 s (j 0) (j 1) := by
  funext a
  match a with
  | 0 => rfl
  | 1 => rfl
  | 2 => rfl

/-- The reference's operations on the four matrices give their sum. -/
theorem reference_eq :
    (extf .f32 (truncf .bf16 (Host.reduceAdd (extf .f32 (G : FVec Ideal Cert.ReferenceIdeal.S4x2048x2048 .bf16) Cert.ReferenceIdeal.Gen.facts.bitsLt_bf16_f32)
        (constant Cert.ReferenceIdeal.S_ .f32 0x00000000#32) Cert.ReferenceIdeal.Gen.facts.reducesTo_S4x2048x2048_S2048x2048_d0 Cert.ReferenceIdeal.Gen.facts.h_S_)
      Cert.ReferenceIdeal.Gen.facts.bitsLt_bf16_f32) Cert.ReferenceIdeal.Gen.facts.bitsLt_bf16_f32 : FVec Ideal Cert.ReferenceIdeal.S2048x2048 .f32) = whole G := by
  funext j
  refine (Ideal.hostReduceAdd_single Cert.ReferenceIdeal.Gen.facts.reducesTo_S4x2048x2048_S2048x2048_d0 reduces_first G (Ideal.ofBits .f32 0x00000000#32) j).trans ?_
  rw [Ideal.ofBits_zero_f32, zero_add]
  exact Finset.sum_congr rfl fun s _ => congrArg G (lift_first j s)

/-! ## The blocks that a claim names -/

/-- A device's block of columns of the sum is what the rings leave it. -/
theorem result_block (c : Dev nD) : result (part G) c
    = Layout.blockN ⟨2, ![2048, 512]⟩ ⟨2, ![2048, 2048]⟩ (Layout.meshBlock [2, 4, 4] ![[], [2]] c) (whole G) := by
  funext i
  refine (result_eq G c i).trans ?_
  refine Finset.sum_congr rfl fun s _ => congrArg G (congrArg₂ (at3 s) (Fin.ext ?_) (Fin.ext ?_))
  · show (i 0).val = 0 * 2048 + (i 0).val
    omega
  · show c.val % 4 * 512 + (i 1).val = (c.val / 1 % 4 * 1 + 0) * 512 + (i 1).val
    omega

/-- Where every device's argument is its block of the four matrices, the rings' input is what `part` names. -/
theorem input_eq (m : (ℓ : Loc nD τ sig) → Buf (Elt Ideal) ℓ) (c : Dev nD)
    (h : m ((c.tc : Thread nD τ).loc main_arg0) = Layout.blockN ⟨3, ![1, 2048, 2048]⟩ ⟨3, ![4, 2048, 2048]⟩ (Layout.meshBlock [2, 4, 4] ![[2], [], []] c) G) :
    input m c = part G c := by
  have e : input m c = shapeCast S2048x2048 (m ((c.tc : Thread nD τ).loc main_arg0)) shapeCasts_S1x2048x2048_S2048x2048 := by
    unfold input V₁
    rw [StableHlo.after_cons, StableHlo.after_nil]
    exact StableHlo.reshape_result main_arg0 main_v1 rfl shapeCasts_S1x2048x2048_S2048x2048 _ _ (V₀ m c)
  rw [e, h]
  funext i
  rw [shapeCast_dropUnit_apply]
  refine congrArg G (funext fun a => Fin.ext ?_)
  match a with
  | 0 => show (c.val / 1 % 4 * 1 + 0) * 1 + 0 = c.val % 4; omega
  | 1 => show 0 * 2048 + (i 0).val = (i 0).val; omega
  | 2 => show 0 * 2048 + (i 1).val = (i 1).val; omega

end Cert.Ring
end
-- ==== Proof.lean ====
/-
  The proof of `Cert.Claim` (Defs.lean). The launch of the kernel is proved once, over any float values (Proof/Launch.lean `run_main`), and read twice: at the
  bit patterns for `Kernel`, whose text is `KernelIdeal`'s, and at the extended reals for `KernelIdeal`. Proof/Value.lean says what the two rings' sums are.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The kernel at the bit patterns runs to the end, leaves its argument unchanged and every semaphore at zero. -/
theorem frame_kernel : Cert.quiescent_Kernel := fun m g _ => by
  rw [Cert.Ring.defs_same, Cert.Ring.main_same]
  exact (θ_run Cert.KernelIdeal.defs _ _).mono (fun _ h => ⟨fun c => (h.1 c).1, h.2⟩) (Cert.Ring.run_main (F := Bits) m g)

/-- The kernel at the extended reals runs to the end, leaves its argument unchanged and every semaphore at zero. -/
theorem frame_ideal : Cert.quiescent_KernelIdeal := fun m g _ =>
  (θ_run Cert.KernelIdeal.defs _ _).mono (fun _ h => ⟨fun c => (h.1 c).1, h.2⟩) (Cert.Ring.run_main (F := Ideal) m g)

/-- The reference runs to the end and leaves its argument unchanged; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is its block of columns of the sum that the reference computes of the whole argument. -/
theorem value : Cert.algebraic_KernelIdeal_ReferenceIdeal := fun m g m' g' _ hm => by
  refine ⟨Cert.Ring.whole (m' (((0 : Dev Cert.ReferenceIdeal.nD).tc : Thread Cert.ReferenceIdeal.nD Cert.ReferenceIdeal.τ).loc Cert.ReferenceIdeal.main_arg0)), ?_, ?_⟩
  · have hi : Cert.Ring.input m = Cert.Ring.part _ := funext fun c => Cert.Ring.input_eq _ m c (hm c)
    refine (θ_run Cert.KernelIdeal.defs _ _).mono (fun _ h c => ⟨?_, (h.1 c).1⟩) (Cert.Ring.run_main (F := Ideal) m g)
    have hr := (h.1 c).2
    rw [hi] at hr
    exact hr.trans (Cert.Ring.result_block _ c)
  · exact (θ_run Cert.ReferenceIdeal.defs _ _).mono (fun _ h => ⟨(h 0).1.trans (Cert.Ring.reference_eq _), (h 0).2⟩)
      (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
